-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_sqrt_c" .f32 0x3DD105EC#32 (((Real.sqrt 96)⁻¹ : ℝ) : EReal)

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v405) = v0 c
          ∧ r.2.mem ((c.tc : Thread Cert.ReferenceIdeal.nD Cert.ReferenceIdeal.τ).loc Cert.ReferenceIdeal.main_v406) = v1 c
          ∧ r.2.mem ((c.tc : Thread Cert.ReferenceIdeal.nD Cert.ReferenceIdeal.τ).loc Cert.ReferenceIdeal.main_v407) = v2 c
          ∧ r.2.mem ((c.tc : Thread Cert.ReferenceIdeal.nD Cert.ReferenceIdeal.τ).loc Cert.ReferenceIdeal.main_v409) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S1x96x224x224 : Shape := ⟨4, ![1, 96, 224, 224]⟩
abbrev S1x1x224x224 : Shape := ⟨4, ![1, 1, 224, 224]⟩
abbrev S96x96x3x3 : Shape := ⟨4, ![96, 96, 3, 3]⟩
abbrev S96 : Shape := ⟨1, ![96]⟩
abbrev S_ : Shape := ⟨0, ![]⟩

class Facts : Prop where
  bcast_S_S1x96x224x224 : S_.BroadcastsInDim S1x96x224x224 (![] : Fin 0 → Fin S1x96x224x224.rank)
  bcast_S_S96x96x3x3 : S_.BroadcastsInDim S96x96x3x3 (![] : Fin 0 → Fin S96x96x3x3.rank)
  bcast_S_S96 : S_.BroadcastsInDim S96 (![] : Fin 0 → Fin S96.rank)

variable [Facts]

def fn_part1 {F : FTy → Type} [FloatOps F] (main_arg7 : FVec F S96 .f32) (main_v2 : IVec S1x96x224x224 1) (main_v5 : IVec S1x96x224x224 1) (main_v8 : IVec S1x96x224x224 1) (main_v11 : IVec S96x96x3x3 1) (main_v14 : IVec S96 1) (main_v17 : IVec S96x96x3x3 1) : IVec S1x96x224x224 1 × IVec S1x96x224x224 1 × IVec S1x96x224x224 1 × IVec S96x96x3x3 1 × IVec S96 1 × IVec S96x96x3x3 1 × IVec S96 1 :=
  let main_v18 : FVec F S96 .f32 := Host.absf main_arg7
  let main_cst_5 : FVec F S_ .f32 := constant S_ .f32 0x7F800000#32
  let main_v19 : FVec F S96 .f32 := broadcastInDim S96 ![] bcast_S_S96 main_cst_5
  let main_v20 : IVec S96 1 := cmpf .olt main_v18 main_v19
  (main_v2, main_v5, main_v8, main_v11, main_v14, main_v17, main_v20)

def fn {F : FTy → Type} [FloatOps F] (main_arg0 : FVec F S1x96x224x224 .f32) (main_arg1 : FVec F S1x96x224x224 .f32) (main_arg2 : FVec F S1x96x224x224 .f32) (main_arg3 : FVec F S1x1x224x224 .f32) (main_arg4 : FVec F S96x96x3x3 .f32) (main_arg5 : FVec F S96 .f32) (main_arg6 : FVec F S96x96x3x3 .f32) (main_arg7 : FVec F S96 .f32) (main_arg8 : FVec F S96x96x3x3 .f32) (main_arg9 : FVec F S96 .f32) : IVec S1x96x224x224 1 × IVec S1x96x224x224 1 × IVec S1x96x224x224 1 × IVec S96x96x3x3 1 × IVec S96 1 × IVec S96x96x3x3 1 × IVec S96 1 :=
  let main_v0 : FVec F S1x96x224x224 .f32 := Host.absf main_arg0
  let main_cst : FVec F S_ .f32 := constant S_ .f32 0x7F800000#32
  let main_v1 : FVec F S1x96x224x224 .f32 := broadcastInDim S1x96x224x224 ![] bcast_S_S1x96x224x224 main_cst
  let main_v2 : IVec S1x96x224x224 1 := cmpf .olt main_v0 main_v1
  let main_v3 : FVec F S1x96x224x224 .f32 := Host.absf main_arg1
  let main_cst_0 : FVec F S_ .f32 := constant S_ .f32 0x7F800000#32
  let main_v4 : FVec F S1x96x224x224 .f32 := broadcastInDim S1x96x224x224 ![] bcast_S_S1x96x224x224 main_cst_0
  let main_v5 : IVec S1x96x224x224 1 := cmpf .olt main_v3 main_v4
  let main_v6 : FVec F S1x96x224x224 .f32 := Host.absf main_arg2
  let main_cst_1 : FVec F S_ .f32 := constant S_ .f32 0x7F800000#32
  let main_v7 : FVec F S1x96x224x224 .f32 := broadcastInDim S1x96x224x224 ![] bcast_S_S1x96x224x224 main_cst_1
  let main_v8 : IVec S1x96x224x224 1 := cmpf .olt main_v6 main_v7
  let main_v9 : FVec F S96x96x3x3 .f32 := Host.absf main_arg4
  let main_cst_2 : FVec F S_ .f32 := constant S_ .f32 0x7F800000#32
  let main_v10 : FVec F S96x96x3x3 .f32 := broadcastInDim S96x96x3x3 ![] bcast_S_S96x96x3x3 main_cst_2
  let main_v11 : IVec S96x96x3x3 1 := cmpf .olt main_v9 main_v10
  let main_v12 : FVec F S96 .f32 := Host.absf main_arg5
  let main_cst_3 : FVec F S_ .f32 := constant S_ .f32 0x7F800000#32
  let main_v13 : FVec F S96 .f32 := broadcastInDim S96 ![] bcast_S_S96 main_cst_3
  let main_v14 : IVec S96 1 := cmpf .olt main_v12 main_v13
  let main_v15 : FVec F S96x96x3x3 .f32 := Host.absf main_arg6
  let main_cst_4 : FVec F S_ .f32 := constant S_ .f32 0x7F800000#32
  let main_v16 : FVec F S96x96x3x3 .f32 := broadcastInDim S96x96x3x3 ![] bcast_S_S96x96x3x3 main_cst_4
  let main_v17 : IVec S96x96x3x3 1 := cmpf .olt main_v15 main_v16
  fn_part1 (F := F) main_arg7 main_v2 main_v5 main_v8 main_v11 main_v14 main_v17
-- ==== Kernel.lean ====
abbrev S1x96x224x224 : Shape := ⟨4, ![1, 96, 224, 224]⟩
abbrev S1x1x224x224 : Shape := ⟨4, ![1, 1, 224, 224]⟩
abbrev S96x96x3x3 : Shape := ⟨4, ![96, 96, 3, 3]⟩
abbrev S96 : Shape := ⟨1, ![96]⟩
abbrev S96x224x224 : Shape := ⟨3, ![96, 224, 224]⟩
abbrev S_ : Shape := ⟨0, ![]⟩
abbrev S96x224x256 : Shape := ⟨3, ![96, 224, 256]⟩
abbrev S96x57344 : Shape := ⟨2, ![96, 57344]⟩
abbrev S96x59136 : Shape := ⟨2, ![96, 59136]⟩
abbrev S1x224x224 : Shape := ⟨3, ![1, 224, 224]⟩
abbrev S1x224x256 : Shape := ⟨3, ![1, 224, 256]⟩
abbrev S1x57344 : Shape := ⟨2, ![1, 57344]⟩
abbrev S3x3x96x96 : Shape := ⟨4, ![3, 3, 96, 96]⟩
abbrev S9x96x96 : Shape := ⟨3, ![9, 96, 96]⟩
abbrev S96x1 : Shape := ⟨2, ![96, 1]⟩
abbrev S96x50176 : Shape := ⟨2, ![96, 50176]⟩
abbrev S25x50176 : Shape := ⟨2, ![25, 50176]⟩
abbrev S96x5888 : Shape := ⟨2, ![96, 5888]⟩
abbrev S1x4096 : Shape := ⟨2, ![1, 4096]⟩
abbrev S96x3584 : Shape := ⟨2, ![96, 3584]⟩
abbrev S25x3584 : Shape := ⟨2, ![25, 3584]⟩
abbrev S96x4096 : Shape := ⟨2, ![96, 4096]⟩
abbrev S1x96x96 : Shape := ⟨3, ![1, 96, 96]⟩
abbrev S96x96 : Shape := ⟨2, ![96, 96]⟩
abbrev S96x5248 : Shape := ⟨2, ![96, 5248]⟩
abbrev S1x5248 : Shape := ⟨2, ![1, 5248]⟩
abbrev S4096 : Shape := ⟨1, ![4096]⟩
abbrev S25x4096 : Shape := ⟨2, ![25, 4096]⟩
abbrev S96x224 : Shape := ⟨2, ![96, 224]⟩
abbrev S25x224 : Shape := ⟨2, ![25, 224]⟩
abbrev S1x25x50176 : Shape := ⟨3, ![1, 25, 50176]⟩

abbrev nBuf : Space → Nat
  | .hbm => 63
  | .vmem => 20
  | .smem => 0
  | _ => 0

abbrev bufTy : (tb : Table) → Fin (tcTables nBuf tb) → BufTy
  | .hbm, ⟨0, _⟩ => ⟨S1x96x224x224, .f32⟩
  | .hbm, ⟨1, _⟩ => ⟨S1x96x224x224, .f32⟩
  | .hbm, ⟨2, _⟩ => ⟨S1x96x224x224, .f32⟩
  | .hbm, ⟨3, _⟩ => ⟨S1x1x224x224, .f32⟩
  | .hbm, ⟨4, _⟩ => ⟨S96x96x3x3, .f32⟩
  | .hbm, ⟨5, _⟩ => ⟨S96, .f32⟩
  | .hbm, ⟨6, _⟩ => ⟨S96x96x3x3, .f32⟩
  | .hbm, ⟨7, _⟩ => ⟨S96, .f32⟩
  | .hbm, ⟨8, _⟩ => ⟨S96x96x3x3, .f32⟩
  | .hbm, ⟨9, _⟩ => ⟨S96, .f32⟩
  | .hbm, ⟨10, _⟩ => ⟨S96x224x224, .f32⟩
  | .hbm, ⟨11, _⟩ => ⟨S_, .i32⟩
  | .hbm, ⟨12, _⟩ => ⟨S_, .f32⟩
  | .hbm, ⟨13, _⟩ => ⟨S96x224x256, .f32⟩
  | .hbm, ⟨14, _⟩ => ⟨S96x57344, .f32⟩
  | .hbm, ⟨15, _⟩ => ⟨S_, .i32⟩
  | .hbm, ⟨16, _⟩ => ⟨S_, .f32⟩
  | .hbm, ⟨17, _⟩ => ⟨S96x59136, .f32⟩
  | .hbm, ⟨18, _⟩ => ⟨S96x59136, .bf16⟩
  | .hbm, ⟨19, _⟩ => ⟨S96x224x224, .f32⟩
  | .hbm, ⟨20, _⟩ => ⟨S_, .i32⟩
  | .hbm, ⟨21, _⟩ => ⟨S_, .f32⟩
  | .hbm, ⟨22, _⟩ => ⟨S96x224x256, .f32⟩
  | .hbm, ⟨23, _⟩ => ⟨S96x57344, .f32⟩
  | .hbm, ⟨24, _⟩ => ⟨S_, .i32⟩
  | .hbm, ⟨25, _⟩ => ⟨S_, .f32⟩
  | .hbm, ⟨26, _⟩ => ⟨S96x59136, .f32⟩
  | .hbm, ⟨27, _⟩ => ⟨S96x59136, .bf16⟩
  | .hbm, ⟨28, _⟩ => ⟨S96x224x224, .f32⟩
  | .hbm, ⟨29, _⟩ => ⟨S_, .i32⟩
  | .hbm, ⟨30, _⟩ => ⟨S_, .f32⟩
  | .hbm, ⟨31, _⟩ => ⟨S96x224x256, .f32⟩
  | .hbm, ⟨32, _⟩ => ⟨S96x57344, .f32⟩
  | .hbm, ⟨33, _⟩ => ⟨S_, .i32⟩
  | .hbm, ⟨34, _⟩ => ⟨S_, .f32⟩
  | .hbm, ⟨35, _⟩ => ⟨S96x59136, .f32⟩
  | .hbm, ⟨36, _⟩ => ⟨S96x59136, .bf16⟩
  | .hbm, ⟨37, _⟩ => ⟨S1x224x224, .f32⟩
  | .hbm, ⟨38, _⟩ => ⟨S_, .i32⟩
  | .hbm, ⟨39, _⟩ => ⟨S_, .f32⟩
  | .hbm, ⟨40, _⟩ => ⟨S1x224x256, .f32⟩
  | .hbm, ⟨41, _⟩ => ⟨S1x57344, .f32⟩
  | .hbm, ⟨42, _⟩ => ⟨S3x3x96x96, .f32⟩
  | .hbm, ⟨43, _⟩ => ⟨S9x96x96, .f32⟩
  | .hbm, ⟨44, _⟩ => ⟨S9x96x96, .bf16⟩
  | .hbm, ⟨45, _⟩ => ⟨S96x1, .f32⟩
  | .hbm, ⟨46, _⟩ => ⟨S3x3x96x96, .f32⟩
  | .hbm, ⟨47, _⟩ => ⟨S9x96x96, .f32⟩
  | .hbm, ⟨48, _⟩ => ⟨S9x96x96, .bf16⟩
  | .hbm, ⟨49, _⟩ => ⟨S96x1, .f32⟩
  | .hbm, ⟨50, _⟩ => ⟨S3x3x96x96, .f32⟩
  | .hbm, ⟨51, _⟩ => ⟨S9x96x96, .f32⟩
  | .hbm, ⟨52, _⟩ => ⟨S9x96x96, .bf16⟩
  | .hbm, ⟨53, _⟩ => ⟨S96x1, .f32⟩
  | .hbm, ⟨54, _⟩ => ⟨S96x50176, .f32⟩
  | .hbm, ⟨55, _⟩ => ⟨S25x50176, .f32⟩
  | .hbm, ⟨56, _⟩ => ⟨S25x50176, .f32⟩
  | .hbm, ⟨57, _⟩ => ⟨S1x96x224x224, .f32⟩
  | .hbm, ⟨58, _⟩ => ⟨S1x25x50176, .f32⟩
  | .hbm, ⟨59, _⟩ => ⟨S1x25x50176, .f32⟩
  | .hbm, ⟨60, _⟩ => ⟨S_, .f32⟩
  | .hbm, ⟨61, _⟩ => ⟨S1x1x224x224, .f32⟩
  | .hbm, ⟨62, _⟩ => ⟨S1x1x224x224, .i1⟩
  | .local _ .vmem, ⟨0, _⟩ => ⟨S96x5888, .bf16⟩
  | .local _ .vmem, ⟨1, _⟩ => ⟨S96x5888, .bf16⟩
  | .local _ .vmem, ⟨2, _⟩ => ⟨S96x5888, .bf16⟩
  | .local _ .vmem, ⟨3, _⟩ => ⟨S96x5888, .bf16⟩
  | .local _ .vmem, ⟨4, _⟩ => ⟨S96x5888, .bf16⟩
  | .local _ .vmem, ⟨5, _⟩ => ⟨S96x5888, .bf16⟩
  | .local _ .vmem, ⟨6, _⟩ => ⟨S1x4096, .f32⟩
  | .local _ .vmem, ⟨7, _⟩ => ⟨S1x4096, .f32⟩
  | .local _ .vmem, ⟨8, _⟩ => ⟨S9x96x96, .bf16⟩
  | .local _ .vmem, ⟨9, _⟩ => ⟨S96x1, .f32⟩
  | .local _ .vmem, ⟨10, _⟩ => ⟨S9x96x96, .bf16⟩
  | .local _ .vmem, ⟨11, _⟩ => ⟨S96x1, .f32⟩
  | .local _ .vmem, ⟨12, _⟩ => ⟨S9x96x96, .bf16⟩
  | .local _ .vmem, ⟨13, _⟩ => ⟨S96x1, .f32⟩
  | .local _ .vmem, ⟨14, _⟩ => ⟨S96x3584, .f32⟩
  | .local _ .vmem, ⟨15, _⟩ => ⟨S96x3584, .f32⟩
  | .local _ .vmem, ⟨16, _⟩ => ⟨S25x3584, .f32⟩
  | .local _ .vmem, ⟨17, _⟩ => ⟨S25x3584, .f32⟩
  | .local _ .vmem, ⟨18, _⟩ => ⟨S25x3584, .f32⟩
  | .local _ .vmem, ⟨19, _⟩ => ⟨S25x3584, .f32⟩
  | _, _ => ⟨S1x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_call2_v0 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_call3_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_call4_v0 : Ref sig .tc := ⟨.hbm, 30, rfl⟩
abbrev main_v11 : Ref sig .tc := ⟨.hbm, 31, rfl⟩
abbrev main_v12 : Ref sig .tc := ⟨.hbm, 32, rfl⟩
abbrev main_c_4 : Ref sig .tc := ⟨.hbm, 33, rfl⟩
abbrev main_call5_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_5 : Ref sig .tc := ⟨.hbm, 38, rfl⟩
abbrev main_call6_v0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_v30_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst : Ref sig .tc := ⟨.hbm, 60, rfl⟩
abbrev main_v34 : Ref sig .tc := ⟨.hbm, 61, rfl⟩
abbrev main_v35 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c4096_i32 : BitVec 32 := 4096#32
  let v0 : BitVec 32 := Scalar.muli arg0 c4096_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c4096_i32 : BitVec 32 := 4096#32
  let v0 : BitVec 32 := Scalar.muli arg0 c4096_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4096_i32 : BitVec 32 := 4096#32
  let v0 : BitVec 32 := Scalar.muli arg0 c4096_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S96x5888 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x5888 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x5888 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S9x96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x96x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S9x96x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S96x3584 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S25x3584 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S25x3584 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "inv_sqrt_c" => some (((Real.sqrt 96)⁻¹ : ℝ) : EReal)
  | _ => none
-- ==== ReferenceIdeal.lean ====
abbrev S1x96x224x224 : Shape := ⟨4, ![1, 96, 224, 224]⟩
abbrev S1x1x224x224 : Shape := ⟨4, ![1, 1, 224, 224]⟩
abbrev S96x96x3x3 : Shape := ⟨4, ![96, 96, 3, 3]⟩
abbrev S96 : Shape := ⟨1, ![96]⟩
abbrev S_ : Shape := ⟨0, ![]⟩
abbrev S1x50176 : Shape := ⟨2, ![1, 50176]⟩
abbrev S96x224x224 : Shape := ⟨3, ![96, 224, 224]⟩
abbrev S96x226x226 : Shape := ⟨3, ![96, 226, 226]⟩
abbrev S96x50176 : Shape := ⟨2, ![96, 50176]⟩
abbrev S96x96x1x1 : Shape := ⟨4, ![96, 96, 1, 1]⟩
abbrev S96x96 : Shape := ⟨2, ![96, 96]⟩
abbrev S96x1 : Shape := ⟨2, ![96, 1]⟩
abbrev S96x228x228 : Shape := ⟨3, ![96, 228, 228]⟩
abbrev S96x1x224x224 : Shape := ⟨4, ![96, 1, 224, 224]⟩
abbrev S96x16x224x224 : Shape := ⟨4, ![96, 16, 224, 224]⟩
abbrev S96x9x224x224 : Shape := ⟨4, ![96, 9, 224, 224]⟩
abbrev S96x25x224x224 : Shape := ⟨4, ![96, 25, 224, 224]⟩
abbrev S96x25x50176 : Shape := ⟨3, ![96, 25, 50176]⟩
abbrev S96x1x50176 : Shape := ⟨3, ![96, 1, 50176]⟩
abbrev S25x50176 : Shape := ⟨2, ![25, 50176]⟩
abbrev S50176 : Shape := ⟨1, ![50176]⟩
abbrev S1x25x50176 : Shape := ⟨3, ![1, 25, 50176]⟩

abbrev nBuf : Space → Nat
  | .hbm => 466
  | .vmem => 0
  | .smem => 0
  | _ => 0

abbrev hbmTy0_0 (i : Nat) : BufTy := match i % 128 with
  | 0 => ⟨S1x96x224x224, .f32⟩
  | 1 => ⟨S1x96x224x224, .f32⟩
  | 2 => ⟨S1x96x224x224, .f32⟩
  | 3 => ⟨S1x1x224x224, .f32⟩
  | 4 => ⟨S96x96x3x3, .f32⟩
  | 5 => ⟨S96, .f32⟩
  | 6 => ⟨S96x96x3x3, .f32⟩
  | 7 => ⟨S96, .f32⟩
  | 8 => ⟨S96x96x3x3, .f32⟩
  | 9 => ⟨S96, .f32⟩
  | 10 => ⟨S_, .f32⟩
  | 11 => ⟨S1x1x224x224, .f32⟩
  | 12 => ⟨S1x1x224x224, .i1⟩
  | 13 => ⟨S1x50176, .i1⟩
  | 14 => ⟨S96x224x224, .f32⟩
  | 15 => ⟨S_, .i32⟩
  | 16 => ⟨S_, .f32⟩
  | 17 => ⟨S96x226x226, .f32⟩
  | 18 => ⟨S_, .f32⟩
  | 19 => ⟨S96x50176, .f32⟩
  | 20 => ⟨S96x96x1x1, .f32⟩
  | 21 => ⟨S96x96, .f32⟩
  | 22 => ⟨S96x224x224, .f32⟩
  | 23 => ⟨S96x50176, .f32⟩
  | 24 => ⟨S96x50176, .f32⟩
  | 25 => ⟨S96x50176, .f32⟩
  | 26 => ⟨S96x96x1x1, .f32⟩
  | 27 => ⟨S96x96, .f32⟩
  | 28 => ⟨S96x224x224, .f32⟩
  | 29 => ⟨S96x50176, .f32⟩
  | 30 => ⟨S96x50176, .f32⟩
  | 31 => ⟨S96x50176, .f32⟩
  | 32 => ⟨S96x96x1x1, .f32⟩
  | 33 => ⟨S96x96, .f32⟩
  | 34 => ⟨S96x224x224, .f32⟩
  | 35 => ⟨S96x50176, .f32⟩
  | 36 => ⟨S96x50176, .f32⟩
  | 37 => ⟨S96x50176, .f32⟩
  | 38 => ⟨S96x96x1x1, .f32⟩
  | 39 => ⟨S96x96, .f32⟩
  | 40 => ⟨S96x224x224, .f32⟩
  | 41 => ⟨S96x50176, .f32⟩
  | 42 => ⟨S96x50176, .f32⟩
  | 43 => ⟨S96x50176, .f32⟩
  | 44 => ⟨S96x96x1x1, .f32⟩
  | 45 => ⟨S96x96, .f32⟩
  | 46 => ⟨S96x224x224, .f32⟩
  | 47 => ⟨S96x50176, .f32⟩
  | 48 => ⟨S96x50176, .f32⟩
  | 49 => ⟨S96x50176, .f32⟩
  | 50 => ⟨S96x96x1x1, .f32⟩
  | 51 => ⟨S96x96, .f32⟩
  | 52 => ⟨S96x224x224, .f32⟩
  | 53 => ⟨S96x50176, .f32⟩
  | 54 => ⟨S96x50176, .f32⟩
  | 55 => ⟨S96x50176, .f32⟩
  | 56 => ⟨S96x96x1x1, .f32⟩
  | 57 => ⟨S96x96, .f32⟩
  | 58 => ⟨S96x224x224, .f32⟩
  | 59 => ⟨S96x50176, .f32⟩
  | 60 => ⟨S96x50176, .f32⟩
  | 61 => ⟨S96x50176, .f32⟩
  | 62 => ⟨S96x96x1x1, .f32⟩
  | 63 => ⟨S96x96, .f32⟩
  | 64 => ⟨S96x224x224, .f32⟩
  | 65 => ⟨S96x50176, .f32⟩
  | 66 => ⟨S96x50176, .f32⟩
  | 67 => ⟨S96x50176, .f32⟩
  | 68 => ⟨S96x96x1x1, .f32⟩
  | 69 => ⟨S96x96, .f32⟩
  | 70 => ⟨S96x224x224, .f32⟩
  | 71 => ⟨S96x50176, .f32⟩
  | 72 => ⟨S96x50176, .f32⟩
  | 73 => ⟨S96x50176, .f32⟩
  | 74 => ⟨S96x1, .f32⟩
  | 75 => ⟨S96x50176, .f32⟩
  | 76 => ⟨S96x50176, .f32⟩
  | 77 => ⟨S96x224x224, .f32⟩
  | 78 => ⟨S_, .i32⟩
  | 79 => ⟨S_, .f32⟩
  | 80 => ⟨S96x226x226, .f32⟩
  | 81 => ⟨S_, .f32⟩
  | 82 => ⟨S96x50176, .f32⟩
  | 83 => ⟨S96x96x1x1, .f32⟩
  | 84 => ⟨S96x96, .f32⟩
  | 85 => ⟨S96x224x224, .f32⟩
  | 86 => ⟨S96x50176, .f32⟩
  | 87 => ⟨S96x50176, .f32⟩
  | 88 => ⟨S96x50176, .f32⟩
  | 89 => ⟨S96x96x1x1, .f32⟩
  | 90 => ⟨S96x96, .f32⟩
  | 91 => ⟨S96x224x224, .f32⟩
  | 92 => ⟨S96x50176, .f32⟩
  | 93 => ⟨S96x50176, .f32⟩
  | 94 => ⟨S96x50176, .f32⟩
  | 95 => ⟨S96x96x1x1, .f32⟩
  | 96 => ⟨S96x96, .f32⟩
  | 97 => ⟨S96x224x224, .f32⟩
  | 98 => ⟨S96x50176, .f32⟩
  | 99 => ⟨S96x50176, .f32⟩
  | 100 => ⟨S96x50176, .f32⟩
  | 101 => ⟨S96x96x1x1, .f32⟩
  | 102 => ⟨S96x96, .f32⟩
  | 103 => ⟨S96x224x224, .f32⟩
  | 104 => ⟨S96x50176, .f32⟩
  | 105 => ⟨S96x50176, .f32⟩
  | 106 => ⟨S96x50176, .f32⟩
  | 107 => ⟨S96x96x1x1, .f32⟩
  | 108 => ⟨S96x96, .f32⟩
  | 109 => ⟨S96x224x224, .f32⟩
  | 110 => ⟨S96x50176, .f32⟩
  | 111 => ⟨S96x50176, .f32⟩
  | 112 => ⟨S96x50176, .f32⟩
  | 113 => ⟨S96x96x1x1, .f32⟩
  | 114 => ⟨S96x96, .f32⟩
  | 115 => ⟨S96x224x224, .f32⟩
  | 116 => ⟨S96x50176, .f32⟩
  | 117 => ⟨S96x50176, .f32⟩
  | 118 => ⟨S96x50176, .f32⟩
  | 119 => ⟨S96x96x1x1, .f32⟩
  | 120 => ⟨S96x96, .f32⟩
  | 121 => ⟨S96x224x224, .f32⟩
  | 122 => ⟨S96x50176, .f32⟩
  | 123 => ⟨S96x50176, .f32⟩
  | 124 => ⟨S96x50176, .f32⟩
  | 125 => ⟨S96x96x1x1, .f32⟩
  | 126 => ⟨S96x96, .f32⟩
  | 127 => ⟨S96x224x224, .f32⟩
  | _ => ⟨S1x96x224x224, .f32⟩

abbrev hbmTy0_1 (i : Nat) : BufTy := match i % 128 with
  | 0 => ⟨S96x50176, .f32⟩
  | 1 => ⟨S96x50176, .f32⟩
  | 2 => ⟨S96x50176, .f32⟩
  | 3 => ⟨S96x96x1x1, .f32⟩
  | 4 => ⟨S96x96, .f32⟩
  | 5 => ⟨S96x224x224, .f32⟩
  | 6 => ⟨S96x50176, .f32⟩
  | 7 => ⟨S96x50176, .f32⟩
  | 8 => ⟨S96x50176, .f32⟩
  | 9 => ⟨S96x1, .f32⟩
  | 10 => ⟨S96x50176, .f32⟩
  | 11 => ⟨S96x50176, .f32⟩
  | 12 => ⟨S96x224x224, .f32⟩
  | 13 => ⟨S_, .i32⟩
  | 14 => ⟨S_, .f32⟩
  | 15 => ⟨S96x226x226, .f32⟩
  | 16 => ⟨S_, .f32⟩
  | 17 => ⟨S96x50176, .f32⟩
  | 18 => ⟨S96x96x1x1, .f32⟩
  | 19 => ⟨S96x96, .f32⟩
  | 20 => ⟨S96x224x224, .f32⟩
  | 21 => ⟨S96x50176, .f32⟩
  | 22 => ⟨S96x50176, .f32⟩
  | 23 => ⟨S96x50176, .f32⟩
  | 24 => ⟨S96x96x1x1, .f32⟩
  | 25 => ⟨S96x96, .f32⟩
  | 26 => ⟨S96x224x224, .f32⟩
  | 27 => ⟨S96x50176, .f32⟩
  | 28 => ⟨S96x50176, .f32⟩
  | 29 => ⟨S96x50176, .f32⟩
  | 30 => ⟨S96x96x1x1, .f32⟩
  | 31 => ⟨S96x96, .f32⟩
  | 32 => ⟨S96x224x224, .f32⟩
  | 33 => ⟨S96x50176, .f32⟩
  | 34 => ⟨S96x50176, .f32⟩
  | 35 => ⟨S96x50176, .f32⟩
  | 36 => ⟨S96x96x1x1, .f32⟩
  | 37 => ⟨S96x96, .f32⟩
  | 38 => ⟨S96x224x224, .f32⟩
  | 39 => ⟨S96x50176, .f32⟩
  | 40 => ⟨S96x50176, .f32⟩
  | 41 => ⟨S96x50176, .f32⟩
  | 42 => ⟨S96x96x1x1, .f32⟩
  | 43 => ⟨S96x96, .f32⟩
  | 44 => ⟨S96x224x224, .f32⟩
  | 45 => ⟨S96x50176, .f32⟩
  | 46 => ⟨S96x50176, .f32⟩
  | 47 => ⟨S96x50176, .f32⟩
  | 48 => ⟨S96x96x1x1, .f32⟩
  | 49 => ⟨S96x96, .f32⟩
  | 50 => ⟨S96x224x224, .f32⟩
  | 51 => ⟨S96x50176, .f32⟩
  | 52 => ⟨S96x50176, .f32⟩
  | 53 => ⟨S96x50176, .f32⟩
  | 54 => ⟨S96x96x1x1, .f32⟩
  | 55 => ⟨S96x96, .f32⟩
  | 56 => ⟨S96x224x224, .f32⟩
  | 57 => ⟨S96x50176, .f32⟩
  | 58 => ⟨S96x50176, .f32⟩
  | 59 => ⟨S96x50176, .f32⟩
  | 60 => ⟨S96x96x1x1, .f32⟩
  | 61 => ⟨S96x96, .f32⟩
  | 62 => ⟨S96x224x224, .f32⟩
  | 63 => ⟨S96x50176, .f32⟩
  | 64 => ⟨S96x50176, .f32⟩
  | 65 => ⟨S96x50176, .f32⟩
  | 66 => ⟨S96x96x1x1, .f32⟩
  | 67 => ⟨S96x96, .f32⟩
  | 68 => ⟨S96x224x224, .f32⟩
  | 69 => ⟨S96x50176, .f32⟩
  | 70 => ⟨S96x50176, .f32⟩
  | 71 => ⟨S96x50176, .f32⟩
  | 72 => ⟨S96x1, .f32⟩
  | 73 => ⟨S96x50176, .f32⟩
  | 74 => ⟨S96x50176, .f32⟩
  | 75 => ⟨S96x224x224, .f32⟩
  | 76 => ⟨S_, .i32⟩
  | 77 => ⟨S_, .f32⟩
  | 78 => ⟨S96x228x228, .f32⟩
  | 79 => ⟨S96x224x224, .f32⟩
  | 80 => ⟨S96x224x224, .f32⟩
  | 81 => ⟨S96x224x224, .f32⟩
  | 82 => ⟨S96x224x224, .f32⟩
  | 83 => ⟨S96x224x224, .f32⟩
  | 84 => ⟨S96x224x224, .f32⟩
  | 85 => ⟨S96x224x224, .f32⟩
  | 86 => ⟨S96x224x224, .f32⟩
  | 87 => ⟨S96x224x224, .f32⟩
  | 88 => ⟨S96x224x224, .f32⟩
  | 89 => ⟨S96x224x224, .f32⟩
  | 90 => ⟨S96x224x224, .f32⟩
  | 91 => ⟨S96x224x224, .f32⟩
  | 92 => ⟨S96x224x224, .f32⟩
  | 93 => ⟨S96x224x224, .f32⟩
  | 94 => ⟨S96x224x224, .f32⟩
  | 95 => ⟨S96x224x224, .f32⟩
  | 96 => ⟨S96x224x224, .f32⟩
  | 97 => ⟨S96x224x224, .f32⟩
  | 98 => ⟨S96x224x224, .f32⟩
  | 99 => ⟨S96x224x224, .f32⟩
  | 100 => ⟨S96x224x224, .f32⟩
  | 101 => ⟨S96x224x224, .f32⟩
  | 102 => ⟨S96x224x224, .f32⟩
  | 103 => ⟨S96x224x224, .f32⟩
  | 104 => ⟨S96x1x224x224, .f32⟩
  | 105 => ⟨S96x1x224x224, .f32⟩
  | 106 => ⟨S96x1x224x224, .f32⟩
  | 107 => ⟨S96x1x224x224, .f32⟩
  | 108 => ⟨S96x1x224x224, .f32⟩
  | 109 => ⟨S96x1x224x224, .f32⟩
  | 110 => ⟨S96x1x224x224, .f32⟩
  | 111 => ⟨S96x1x224x224, .f32⟩
  | 112 => ⟨S96x1x224x224, .f32⟩
  | 113 => ⟨S96x1x224x224, .f32⟩
  | 114 => ⟨S96x1x224x224, .f32⟩
  | 115 => ⟨S96x1x224x224, .f32⟩
  | 116 => ⟨S96x1x224x224, .f32⟩
  | 117 => ⟨S96x1x224x224, .f32⟩
  | 118 => ⟨S96x1x224x224, .f32⟩
  | 119 => ⟨S96x1x224x224, .f32⟩
  | 120 => ⟨S96x1x224x224, .f32⟩
  | 121 => ⟨S96x1x224x224, .f32⟩
  | 122 => ⟨S96x1x224x224, .f32⟩
  | 123 => ⟨S96x1x224x224, .f32⟩
  | 124 => ⟨S96x1x224x224, .f32⟩
  | 125 => ⟨S96x1x224x224, .f32⟩
  | 126 => ⟨S96x1x224x224, .f32⟩
  | 127 => ⟨S96x1x224x224, .f32⟩
  | _ => ⟨S1x96x224x224, .f32⟩

abbrev hbmTy0_2 (i : Nat) : BufTy := match i % 128 with
  | 0 => ⟨S96x1x224x224, .f32⟩
  | 1 => ⟨S96x16x224x224, .f32⟩
  | 2 => ⟨S96x9x224x224, .f32⟩
  | 3 => ⟨S96x25x224x224, .f32⟩
  | 4 => ⟨S96x25x50176, .f32⟩
  | 5 => ⟨S96x1x50176, .f32⟩
  | 6 => ⟨S96x25x50176, .f32⟩
  | 7 => ⟨S96x25x50176, .f32⟩
  | 8 => ⟨S_, .f32⟩
  | 9 => ⟨S25x50176, .f32⟩
  | 10 => ⟨S_, .f32⟩
  | 11 => ⟨S_, .f32⟩
  | 12 => ⟨S25x50176, .f32⟩
  | 13 => ⟨S25x50176, .f32⟩
  | 14 => ⟨S_, .f32⟩
  | 15 => ⟨S50176, .f32⟩
  | 16 => ⟨S_, .f32⟩
  | 17 => ⟨S50176, .f32⟩
  | 18 => ⟨S50176, .f32⟩
  | 19 => ⟨S1x50176, .f32⟩
  | 20 => ⟨S25x50176, .f32⟩
  | 21 => ⟨S25x50176, .f32⟩
  | 22 => ⟨S25x50176, .f32⟩
  | 23 => ⟨S_, .f32⟩
  | 24 => ⟨S50176, .f32⟩
  | 25 => ⟨S1x50176, .f32⟩
  | 26 => ⟨S25x50176, .f32⟩
  | 27 => ⟨S25x50176, .f32⟩
  | 28 => ⟨S1x25x50176, .f32⟩
  | 29 => ⟨S96x25x50176, .f32⟩
  | 30 => ⟨S96x25x50176, .f32⟩
  | 31 => ⟨S_, .f32⟩
  | 32 => ⟨S96x50176, .f32⟩
  | 33 => ⟨S_, .f32⟩
  | 34 => ⟨S_, .f32⟩
  | 35 => ⟨S96x50176, .i1⟩
  | 36 => ⟨S96x50176, .f32⟩
  | 37 => ⟨S96x50176, .f32⟩
  | 38 => ⟨S_, .f32⟩
  | 39 => ⟨S_, .f32⟩
  | 40 => ⟨S25x50176, .i1⟩
  | 41 => ⟨S25x50176, .f32⟩
  | 42 => ⟨S25x50176, .f32⟩
  | 43 => ⟨S96x224x224, .f32⟩
  | 44 => ⟨S_, .i32⟩
  | 45 => ⟨S_, .f32⟩
  | 46 => ⟨S96x226x226, .f32⟩
  | 47 => ⟨S_, .f32⟩
  | 48 => ⟨S96x50176, .f32⟩
  | 49 => ⟨S96x96x1x1, .f32⟩
  | 50 => ⟨S96x96, .f32⟩
  | 51 => ⟨S96x224x224, .f32⟩
  | 52 => ⟨S96x50176, .f32⟩
  | 53 => ⟨S96x50176, .f32⟩
  | 54 => ⟨S96x50176, .f32⟩
  | 55 => ⟨S96x96x1x1, .f32⟩
  | 56 => ⟨S96x96, .f32⟩
  | 57 => ⟨S96x224x224, .f32⟩
  | 58 => ⟨S96x50176, .f32⟩
  | 59 => ⟨S96x50176, .f32⟩
  | 60 => ⟨S96x50176, .f32⟩
  | 61 => ⟨S96x96x1x1, .f32⟩
  | 62 => ⟨S96x96, .f32⟩
  | 63 => ⟨S96x224x224, .f32⟩
  | 64 => ⟨S96x50176, .f32⟩
  | 65 => ⟨S96x50176, .f32⟩
  | 66 => ⟨S96x50176, .f32⟩
  | 67 => ⟨S96x96x1x1, .f32⟩
  | 68 => ⟨S96x96, .f32⟩
  | 69 => ⟨S96x224x224, .f32⟩
  | 70 => ⟨S96x50176, .f32⟩
  | 71 => ⟨S96x50176, .f32⟩
  | 72 => ⟨S96x50176, .f32⟩
  | 73 => ⟨S96x96x1x1, .f32⟩
  | 74 => ⟨S96x96, .f32⟩
  | 75 => ⟨S96x224x224, .f32⟩
  | 76 => ⟨S96x50176, .f32⟩
  | 77 => ⟨S96x50176, .f32⟩
  | 78 => ⟨S96x50176, .f32⟩
  | 79 => ⟨S96x96x1x1, .f32⟩
  | 80 => ⟨S96x96, .f32⟩
  | 81 => ⟨S96x224x224, .f32⟩
  | 82 => ⟨S96x50176, .f32⟩
  | 83 => ⟨S96x50176, .f32⟩
  | 84 => ⟨S96x50176, .f32⟩
  | 85 => ⟨S96x96x1x1, .f32⟩
  | 86 => ⟨S96x96, .f32⟩
  | 87 => ⟨S96x224x224, .f32⟩
  | 88 => ⟨S96x50176, .f32⟩
  | 89 => ⟨S96x50176, .f32⟩
  | 90 => ⟨S96x50176, .f32⟩
  | 91 => ⟨S96x96x1x1, .f32⟩
  | 92 => ⟨S96x96, .f32⟩
  | 93 => ⟨S96x224x224, .f32⟩
  | 94 => ⟨S96x50176, .f32⟩
  | 95 => ⟨S96x50176, .f32⟩
  | 96 => ⟨S96x50176, .f32⟩
  | 97 => ⟨S96x96x1x1, .f32⟩
  | 98 => ⟨S96x96, .f32⟩
  | 99 => ⟨S96x224x224, .f32⟩
  | 100 => ⟨S96x50176, .f32⟩
  | 101 => ⟨S96x50176, .f32⟩
  | 102 => ⟨S96x50176, .f32⟩
  | 103 => ⟨S96x1, .f32⟩
  | 104 => ⟨S96x50176, .f32⟩
  | 105 => ⟨S96x50176, .f32⟩
  | 106 => ⟨S96x224x224, .f32⟩
  | 107 => ⟨S_, .i32⟩
  | 108 => ⟨S_, .f32⟩
  | 109 => ⟨S96x228x228, .f32⟩
  | 110 => ⟨S96x224x224, .f32⟩
  | 111 => ⟨S96x224x224, .f32⟩
  | 112 => ⟨S96x224x224, .f32⟩
  | 113 => ⟨S96x224x224, .f32⟩
  | 114 => ⟨S96x224x224, .f32⟩
  | 115 => ⟨S96x224x224, .f32⟩
  | 116 => ⟨S96x224x224, .f32⟩
  | 117 => ⟨S96x224x224, .f32⟩
  | 118 => ⟨S96x224x224, .f32⟩
  | 119 => ⟨S96x224x224, .f32⟩
  | 120 => ⟨S96x224x224, .f32⟩
  | 121 => ⟨S96x224x224, .f32⟩
  | 122 => ⟨S96x224x224, .f32⟩
  | 123 => ⟨S96x224x224, .f32⟩
  | 124 => ⟨S96x224x224, .f32⟩
  | 125 => ⟨S96x224x224, .f32⟩
  | 126 => ⟨S96x224x224, .f32⟩
  | 127 => ⟨S96x224x224, .f32⟩
  | _ => ⟨S1x96x224x224, .f32⟩

abbrev hbmTy0_3 (i : Nat) : BufTy := match i % 128 with
  | 0 => ⟨S96x224x224, .f32⟩
  | 1 => ⟨S96x224x224, .f32⟩
  | 2 => ⟨S96x224x224, .f32⟩
  | 3 => ⟨S96x224x224, .f32⟩
  | 4 => ⟨S96x224x224, .f32⟩
  | 5 => ⟨S96x224x224, .f32⟩
  | 6 => ⟨S96x224x224, .f32⟩
  | 7 => ⟨S96x1x224x224, .f32⟩
  | 8 => ⟨S96x1x224x224, .f32⟩
  | 9 => ⟨S96x1x224x224, .f32⟩
  | 10 => ⟨S96x1x224x224, .f32⟩
  | 11 => ⟨S96x1x224x224, .f32⟩
  | 12 => ⟨S96x1x224x224, .f32⟩
  | 13 => ⟨S96x1x224x224, .f32⟩
  | 14 => ⟨S96x1x224x224, .f32⟩
  | 15 => ⟨S96x1x224x224, .f32⟩
  | 16 => ⟨S96x1x224x224, .f32⟩
  | 17 => ⟨S96x1x224x224, .f32⟩
  | 18 => ⟨S96x1x224x224, .f32⟩
  | 19 => ⟨S96x1x224x224, .f32⟩
  | 20 => ⟨S96x1x224x224, .f32⟩
  | 21 => ⟨S96x1x224x224, .f32⟩
  | 22 => ⟨S96x1x224x224, .f32⟩
  | 23 => ⟨S96x1x224x224, .f32⟩
  | 24 => ⟨S96x1x224x224, .f32⟩
  | 25 => ⟨S96x1x224x224, .f32⟩
  | 26 => ⟨S96x1x224x224, .f32⟩
  | 27 => ⟨S96x1x224x224, .f32⟩
  | 28 => ⟨S96x1x224x224, .f32⟩
  | 29 => ⟨S96x1x224x224, .f32⟩
  | 30 => ⟨S96x1x224x224, .f32⟩
  | 31 => ⟨S96x1x224x224, .f32⟩
  | 32 => ⟨S96x16x224x224, .f32⟩
  | 33 => ⟨S96x9x224x224, .f32⟩
  | 34 => ⟨S96x25x224x224, .f32⟩
  | 35 => ⟨S96x25x50176, .f32⟩
  | 36 => ⟨S96x1x50176, .f32⟩
  | 37 => ⟨S96x25x50176, .f32⟩
  | 38 => ⟨S96x25x50176, .f32⟩
  | 39 => ⟨S_, .f32⟩
  | 40 => ⟨S25x50176, .f32⟩
  | 41 => ⟨S_, .f32⟩
  | 42 => ⟨S_, .f32⟩
  | 43 => ⟨S25x50176, .f32⟩
  | 44 => ⟨S25x50176, .f32⟩
  | 45 => ⟨S_, .f32⟩
  | 46 => ⟨S50176, .f32⟩
  | 47 => ⟨S_, .f32⟩
  | 48 => ⟨S50176, .f32⟩
  | 49 => ⟨S50176, .f32⟩
  | 50 => ⟨S1x50176, .f32⟩
  | 51 => ⟨S25x50176, .f32⟩
  | 52 => ⟨S25x50176, .f32⟩
  | 53 => ⟨S25x50176, .f32⟩
  | 54 => ⟨S_, .f32⟩
  | 55 => ⟨S50176, .f32⟩
  | 56 => ⟨S1x50176, .f32⟩
  | 57 => ⟨S25x50176, .f32⟩
  | 58 => ⟨S25x50176, .f32⟩
  | 59 => ⟨S1x25x50176, .f32⟩
  | 60 => ⟨S96x25x50176, .f32⟩
  | 61 => ⟨S96x25x50176, .f32⟩
  | 62 => ⟨S_, .f32⟩
  | 63 => ⟨S96x50176, .f32⟩
  | 64 => ⟨S_, .f32⟩
  | 65 => ⟨S_, .f32⟩
  | 66 => ⟨S96x50176, .i1⟩
  | 67 => ⟨S96x50176, .f32⟩
  | 68 => ⟨S96x50176, .f32⟩
  | 69 => ⟨S_, .f32⟩
  | 70 => ⟨S_, .f32⟩
  | 71 => ⟨S25x50176, .i1⟩
  | 72 => ⟨S25x50176, .f32⟩
  | 73 => ⟨S25x50176, .f32⟩
  | 74 => ⟨S96x50176, .f32⟩
  | 75 => ⟨S96x50176, .f32⟩
  | 76 => ⟨S1x96x224x224, .f32⟩
  | 77 => ⟨S1x25x50176, .f32⟩
  | 78 => ⟨S1x25x50176, .f32⟩
  | 79 => ⟨S_, .f32⟩
  | 80 => ⟨S1x1x224x224, .f32⟩
  | 81 => ⟨S1x1x224x224, .i1⟩
  | _ => ⟨S1x96x224x224, .f32⟩

abbrev hbmTy (i : Nat) : BufTy := match i / 128 with
  | 0 => hbmTy0_0 i
  | 1 => hbmTy0_1 i
  | 2 => hbmTy0_2 i
  | 3 => hbmTy0_3 i
  | _ => ⟨S1x96x224x224, .f32⟩

abbrev bufTy : (tb : Table) → Fin (tcTables nBuf tb) → BufTy
  | .hbm, ⟨i, _⟩ => hbmTy i
  | _, _ => ⟨S1x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_c_1 : Ref sig .tc := ⟨.hbm, 78, rfl⟩
abbrev main_call1_v0 : Ref sig .tc := ⟨.hbm, 79, rfl⟩
abbrev main_v64 : Ref sig .tc := ⟨.hbm, 80, rfl⟩
abbrev main_cst_2 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_c_3 : Ref sig .tc := ⟨.hbm, 141, rfl⟩
abbrev main_call2_v0 : Ref sig .tc := ⟨.hbm, 142, rfl⟩
abbrev main_v124 : Ref sig .tc := ⟨.hbm, 143, rfl⟩
abbrev main_cst_4 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_c_5 : Ref sig .tc := ⟨.hbm, 204, rfl⟩
abbrev main_call3_v0 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_cst_6 : Ref sig .tc := ⟨.hbm, 264, rfl⟩
abbrev main_v242 : Ref sig .tc := ⟨.hbm, 265, rfl⟩
abbrev main_cst_7 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_cst_8 : Ref sig .tc := ⟨.hbm, 270, rfl⟩
abbrev main_v246 : Ref sig .tc := ⟨.hbm, 271, rfl⟩
abbrev main_cst_9 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_cst_10 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_cst_11 : Ref sig .tc := ⟨.hbm, 287, rfl⟩
abbrev main_v260 : Ref sig .tc := ⟨.hbm, 288, rfl⟩
abbrev main_cst_12 : Ref sig .tc := ⟨.hbm, 289, rfl⟩
abbrev main_call4_v0 : Ref sig .tc := ⟨.hbm, 290, rfl⟩
abbrev main_call4_v1 : Ref sig .tc := ⟨.hbm, 291, rfl⟩
abbrev main_call4_v2 : Ref sig .tc := ⟨.hbm, 292, rfl⟩
abbrev main_v261 : Ref sig .tc := ⟨.hbm, 293, rfl⟩
abbrev main_cst_13 : Ref sig .tc := ⟨.hbm, 294, rfl⟩
abbrev main_call5_v0 : Ref sig .tc := ⟨.hbm, 295, rfl⟩
abbrev main_call5_v1 : Ref sig .tc := ⟨.hbm, 296, rfl⟩
abbrev main_call5_v2 : Ref sig .tc := ⟨.hbm, 297, rfl⟩
abbrev main_v262 : Ref sig .tc := ⟨.hbm, 298, rfl⟩
abbrev main_v263 : Ref sig .tc := ⟨.hbm, 299, rfl⟩
abbrev main_c_14 : Ref sig .tc := ⟨.hbm, 300, rfl⟩
abbrev main_call6_v0 : Ref sig .tc := ⟨.hbm, 301, rfl⟩
abbrev main_v264 : Ref sig .tc := ⟨.hbm, 302, rfl⟩
abbrev main_cst_15 : Ref sig .tc := ⟨.hbm, 303, rfl⟩
abbrev main_v265 : Ref sig .tc := ⟨.hbm, 304, rfl⟩
abbrev main_v266 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_v271 : Ref sig .tc := ⟨.hbm, 310, rfl⟩
abbrev main_v272 : Ref sig .tc := ⟨.hbm, 311, rfl⟩
abbrev main_v273 : Ref sig .tc := ⟨.hbm, 312, rfl⟩
abbrev main_v274 : Ref sig .tc := ⟨.hbm, 313, rfl⟩
abbrev main_v275 : Ref sig .tc := ⟨.hbm, 314, rfl⟩
abbrev main_v276 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_v288 : Ref sig .tc := ⟨.hbm, 327, rfl⟩
abbrev main_v289 : Ref sig .tc := ⟨.hbm, 328, rfl⟩
abbrev main_v290 : Ref sig .tc := ⟨.hbm, 329, rfl⟩
abbrev main_v291 : Ref sig .tc := ⟨.hbm, 330, rfl⟩
abbrev main_v292 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_v306 : Ref sig .tc := ⟨.hbm, 345, rfl⟩
abbrev main_v307 : Ref sig .tc := ⟨.hbm, 346, rfl⟩
abbrev main_v308 : Ref sig .tc := ⟨.hbm, 347, rfl⟩
abbrev main_v309 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_v317 : Ref sig .tc := ⟨.hbm, 356, rfl⟩
abbrev main_v318 : Ref sig .tc := ⟨.hbm, 357, rfl⟩
abbrev main_v319 : Ref sig .tc := ⟨.hbm, 358, rfl⟩
abbrev main_v320 : Ref sig .tc := ⟨.hbm, 359, rfl⟩
abbrev main_v321 : Ref sig .tc := ⟨.hbm, 360, rfl⟩
abbrev main_v322 : Ref sig .tc := ⟨.hbm, 361, rfl⟩
abbrev main_v323 : Ref sig .tc := ⟨.hbm, 362, rfl⟩
abbrev main_c_16 : Ref sig .tc := ⟨.hbm, 363, rfl⟩
abbrev main_call7_v0 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩
abbrev main_v337 : Ref sig .tc := ⟨.hbm, 378, rfl⟩
abbrev main_v338 : Ref sig .tc := ⟨.hbm, 379, rfl⟩
abbrev main_v339 : Ref sig .tc := ⟨.hbm, 380, rfl⟩
abbrev main_v340 : Ref sig .tc := ⟨.hbm, 381, rfl⟩
abbrev main_v341 : Ref sig .tc := ⟨.hbm, 382, rfl⟩
abbrev main_v342 : Ref sig .tc := ⟨.hbm, 383, rfl⟩
abbrev main_v343 : Ref sig .tc := ⟨.hbm, 384, rfl⟩
abbrev main_v344 : Ref sig .tc := ⟨.hbm, 385, rfl⟩
abbrev main_v345 : Ref sig .tc := ⟨.hbm, 386, rfl⟩
abbrev main_v346 : Ref sig .tc := ⟨.hbm, 387, rfl⟩
abbrev main_v347 : Ref sig .tc := ⟨.hbm, 388, rfl⟩
abbrev main_v348 : Ref sig .tc := ⟨.hbm, 389, rfl⟩
abbrev main_v349 : Ref sig .tc := ⟨.hbm, 390, rfl⟩
abbrev main_v350 : Ref sig .tc := ⟨.hbm, 391, rfl⟩
abbrev main_v351 : Ref sig .tc := ⟨.hbm, 392, rfl⟩
abbrev main_v352 : Ref sig .tc := ⟨.hbm, 393, rfl⟩
abbrev main_v353 : Ref sig .tc := ⟨.hbm, 394, rfl⟩
abbrev main_v354 : Ref sig .tc := ⟨.hbm, 395, rfl⟩
abbrev main_v355 : Ref sig .tc := ⟨.hbm, 396, rfl⟩
abbrev main_v356 : Ref sig .tc := ⟨.hbm, 397, rfl⟩
abbrev main_v357 : Ref sig .tc := ⟨.hbm, 398, rfl⟩
abbrev main_v358 : Ref sig .tc := ⟨.hbm, 399, rfl⟩
abbrev main_v359 : Ref sig .tc := ⟨.hbm, 400, rfl⟩
abbrev main_v360 : Ref sig .tc := ⟨.hbm, 401, rfl⟩
abbrev main_v361 : Ref sig .tc := ⟨.hbm, 402, rfl⟩
abbrev main_v362 : Ref sig .tc := ⟨.hbm, 403, rfl⟩
abbrev main_v363 : Ref sig .tc := ⟨.hbm, 404, rfl⟩
abbrev main_v364 : Ref sig .tc := ⟨.hbm, 405, rfl⟩
abbrev main_v365 : Ref sig .tc := ⟨.hbm, 406, rfl⟩
abbrev main_v366 : Ref sig .tc := ⟨.hbm, 407, rfl⟩
abbrev main_v367 : Ref sig .tc := ⟨.hbm, 408, rfl⟩
abbrev main_v368 : Ref sig .tc := ⟨.hbm, 409, rfl⟩
abbrev main_v369 : Ref sig .tc := ⟨.hbm, 410, rfl⟩
abbrev main_v370 : Ref sig .tc := ⟨.hbm, 411, rfl⟩
abbrev main_v371 : Ref sig .tc := ⟨.hbm, 412, rfl⟩
abbrev main_v372 : Ref sig .tc := ⟨.hbm, 413, rfl⟩
abbrev main_v373 : Ref sig .tc := ⟨.hbm, 414, rfl⟩
abbrev main_v374 : Ref sig .tc := ⟨.hbm, 415, rfl⟩
abbrev main_v375 : Ref sig .tc := ⟨.hbm, 416, rfl⟩
abbrev main_v376 : Ref sig .tc := ⟨.hbm, 417, rfl⟩
abbrev main_v377 : Ref sig .tc := ⟨.hbm, 418, rfl⟩
abbrev main_v378 : Ref sig .tc := ⟨.hbm, 419, rfl⟩
abbrev main_v379 : Ref sig .tc := ⟨.hbm, 420, rfl⟩
abbrev main_v380 : Ref sig .tc := ⟨.hbm, 421, rfl⟩
abbrev main_v381 : Ref sig .tc := ⟨.hbm, 422, rfl⟩
abbrev main_cst_17 : Ref sig .tc := ⟨.hbm, 423, rfl⟩
abbrev main_v382 : Ref sig .tc := ⟨.hbm, 424, rfl⟩
abbrev main_cst_18 : Ref sig .tc := ⟨.hbm, 425, rfl⟩
abbrev main_v383 : Ref sig .tc := ⟨.hbm, 426, rfl⟩
abbrev main_v384 : Ref sig .tc := ⟨.hbm, 427, rfl⟩
abbrev main_v385 : Ref sig .tc := ⟨.hbm, 428, rfl⟩
abbrev main_cst_19 : Ref sig .tc := ⟨.hbm, 429, rfl⟩
abbrev main_v386 : Ref sig .tc := ⟨.hbm, 430, rfl⟩
abbrev main_cst_20 : Ref sig .tc := ⟨.hbm, 431, rfl⟩
abbrev main_v387 : Ref sig .tc := ⟨.hbm, 432, rfl⟩
abbrev main_v388 : Ref sig .tc := ⟨.hbm, 433, rfl⟩
abbrev main_v389 : Ref sig .tc := ⟨.hbm, 434, rfl⟩
abbrev main_v390 : Ref sig .tc := ⟨.hbm, 435, rfl⟩
abbrev main_v391 : Ref sig .tc := ⟨.hbm, 436, rfl⟩
abbrev main_v392 : Ref sig .tc := ⟨.hbm, 437, rfl⟩
abbrev main_cst_21 : Ref sig .tc := ⟨.hbm, 438, rfl⟩
abbrev main_v393 : Ref sig .tc := ⟨.hbm, 439, rfl⟩
abbrev main_v394 : Ref sig .tc := ⟨.hbm, 440, rfl⟩
abbrev main_v395 : Ref sig .tc := ⟨.hbm, 441, rfl⟩
abbrev main_v396 : Ref sig .tc := ⟨.hbm, 442, rfl⟩
abbrev main_v397 : Ref sig .tc := ⟨.hbm, 443, rfl⟩
abbrev main_v398 : Ref sig .tc := ⟨.hbm, 444, rfl⟩
abbrev main_v399 : Ref sig .tc := ⟨.hbm, 445, rfl⟩
abbrev main_cst_22 : Ref sig .tc := ⟨.hbm, 446, rfl⟩
abbrev main_v400 : Ref sig .tc := ⟨.hbm, 447, rfl⟩
abbrev main_cst_23 : Ref sig .tc := ⟨.hbm, 448, rfl⟩
abbrev main_call8_v0 : Ref sig .tc := ⟨.hbm, 449, rfl⟩
abbrev main_call8_v1 : Ref sig .tc := ⟨.hbm, 450, rfl⟩
abbrev main_call8_v2 : Ref sig .tc := ⟨.hbm, 451, rfl⟩
abbrev main_v401 : Ref sig .tc := ⟨.hbm, 452, rfl⟩
abbrev main_cst_24 : Ref sig .tc := ⟨.hbm, 453, rfl⟩
abbrev main_call9_v0 : Ref sig .tc := ⟨.hbm, 454, rfl⟩
abbrev main_call9_v1 : Ref sig .tc := ⟨.hbm, 455, rfl⟩
abbrev main_call9_v2 : Ref sig .tc := ⟨.hbm, 456, rfl⟩
abbrev main_v402 : Ref sig .tc := ⟨.hbm, 457, rfl⟩
abbrev main_v403 : Ref sig .tc := ⟨.hbm, 458, rfl⟩
abbrev main_v404 : Ref sig .tc := ⟨.hbm, 459, rfl⟩
abbrev main_v405 : Ref sig .tc := ⟨.hbm, 460, rfl⟩
abbrev main_v406 : Ref sig .tc := ⟨.hbm, 461, rfl⟩
abbrev main_v407 : Ref sig .tc := ⟨.hbm, 462, rfl⟩
abbrev main_cst_25 : Ref sig .tc := ⟨.hbm, 463, rfl⟩
abbrev main_v408 : Ref sig .tc := ⟨.hbm, 464, rfl⟩
abbrev main_v409 : Ref sig .tc := ⟨.hbm, 465, rfl⟩

abbrev nD : Nat := 1
abbrev τ : Topo := Topo.v7x

variable {F : FTy → Type} [FloatOps F]
-- ==== Proof.Spec.lean ====
/-
  The mathematics of the two-branch local attention, over the extended reals and with natural numbers as coordinates: a
  zero-padded image, a 3×3 convolution of it, the 25 scores of a pixel against the 5×5 window round it, and the weighted
  sum of the window. Also the flat layout in which the kernel keeps an image (rows of 256 lanes, four rows of margin in
  front), with the two lemmas that a flat neighbour is a padded neighbour.
-/
module

public import Mathlib.Data.EReal.Operations
public import Mathlib.Algebra.BigOperators.Fin

@[expose] public section

noncomputable section

namespace Cert.Attn

/-- An image: a value for each channel, row and column. -/
abbrev Img := Fin 96 → ℕ → ℕ → EReal

/-- The image with `d` zeros added on every side; coordinates are those of the padded image. -/
def padAt (d : ℕ) (Y : Img) : Img := fun c a b =>
  if d ≤ a ∧ a < 224 + d ∧ d ≤ b ∧ b < 224 + d then Y c (a - d) (b - d) else 0

/-- The 3×3 convolution with one pixel of zero padding: tap `k` is at row offset `k / 3` and column offset `k % 3`. -/
def conv (W : ℕ → Fin 96 → Fin 96 → EReal) (B : Fin 96 → EReal) (Z : Img) : Img := fun o r w =>
  (∑ k ∈ Finset.range 9, ∑ c : Fin 96, W k o c * padAt 1 Z c (r + k / 3) (w + k % 3)) + B o

/-- The kernel's layout of an image: row `r`, column `w` is at position `1024 + 256 * r + w`; everything else is zero. -/
def flat (Y : Img) (c : Fin 96) (g : ℕ) : EReal :=
  if 1024 ≤ g ∧ g < 58368 ∧ g % 256 < 224 then Y c ((g - 1024) / 256) (g % 256) else 0

/-- A neighbour at distance one in the flat layout is a neighbour in the image padded by one. -/
theorem flat_one (Y : Img) (c : Fin 96) (g i j : ℕ) (h0 : 1024 ≤ g) (h1 : g < 58368) (h2 : g % 256 < 224)
    (hi : i < 3) (hj : j < 3) :
    flat Y c (g - 257 + i * 256 + j) = padAt 1 Y c ((g - 1024) / 256 + i) (g % 256 + j) := by
  unfold flat padAt
  by_cases h : 1 ≤ (g - 1024) / 256 + i ∧ (g - 1024) / 256 + i < 225 ∧ 1 ≤ g % 256 + j ∧ g % 256 + j < 225
  · rw [if_pos h, if_pos (by omega)]
    congr 1 <;> omega
  · rw [if_neg h, if_neg (by omega)]

/-- A neighbour at distance up to two in the flat layout is a neighbour in the image padded by two. -/
theorem flat_two (Y : Img) (c : Fin 96) (g i j : ℕ) (h0 : 1024 ≤ g) (h1 : g < 58368) (h2 : g % 256 < 224)
    (hi : i < 5) (hj : j < 5) :
    flat Y c (g - 514 + i * 256 + j) = padAt 2 Y c ((g - 1024) / 256 + i) (g % 256 + j) := by
  unfold flat padAt
  by_cases h : 2 ≤ (g - 1024) / 256 + i ∧ (g - 1024) / 256 + i < 226 ∧ 2 ≤ g % 256 + j ∧ g % 256 + j < 226
  · rw [if_pos h, if_pos (by omega)]
    congr 1 <;> omega
  · rw [if_neg h, if_neg (by omega)]

/-- The convolution taken in the flat layout is the convolution of the image. -/
theorem conv_flat (W : ℕ → Fin 96 → Fin 96 → EReal) (B : Fin 96 → EReal) (Z : Img) (o : Fin 96) (g : ℕ)
    (h0 : 1024 ≤ g) (h1 : g < 58368) (h2 : g % 256 < 224) :
    (∑ k ∈ Finset.range 9, ∑ c : Fin 96, W k o c * flat Z c (g - 257 + k / 3 * 256 + k % 3)) + B o
      = conv W B Z o ((g - 1024) / 256) (g % 256) := by
  unfold conv
  congr 1
  refine Finset.sum_congr rfl fun k hk => Finset.sum_congr rfl fun c _ => ?_
  have := Finset.mem_range.1 hk
  rw [flat_one Z c g _ _ h0 h1 h2 (by omega) (by omega)]

end Cert.Attn

end
-- ==== Proof.Inputs.lean ====
/-
  The arguments as images, filters, biases and a mask over plain indices.
-/
module

public import proofs.«01_k».proof.Proof.Spec

@[expose] public section

noncomputable section

namespace Cert.Attn

/-- The image of an array. -/
def img (X : Fin 96 → Fin 224 → Fin 224 → EReal) : Img := fun c a b =>
  if h : a < 224 ∧ b < 224 then X c ⟨a, h.1⟩ ⟨b, h.2⟩ else 0

/-- The filter taps of a weight array, row after row. -/
def taps (W : Fin 96 → Fin 96 → Fin 3 → Fin 3 → EReal) : ℕ → Fin 96 → Fin 96 → EReal := fun k o c =>
  if h : k / 3 < 3 then W o c ⟨k / 3, h⟩ ⟨k % 3, Nat.mod_lt _ (by omega)⟩ else 0

/-- The mask over plain indices. -/
def msk (X : Fin 224 → Fin 224 → EReal) : ℕ → ℕ → EReal := fun a b =>
  if h : a < 224 ∧ b < 224 then X ⟨a, h.1⟩ ⟨b, h.2⟩ else 0

end Cert.Attn

end
-- ==== Proof.KConv.lean ====
/-
  What one grid point of the kernel computes first: the three convolutions, read at one lane, as sums over nine taps of the
  staged blocks.
-/
module

public import proofs.«01_k».proof.Proof.Gen.KernelIdeal.Frame
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- Nine taps written one by one, in the kernel's order, are the sum over the taps. -/
theorem taps_sum (f : ℕ → EReal) :
    f 0 + f 1 + f 2 + f 3 + f 4 + f 5 + f 6 + f 7 + f 8 = ∑ k ∈ Finset.range 9, f k := by
  simp only [Finset.sum_range_succ, Finset.sum_range_zero, zero_add]

variable (i : grid0.Coords) (x0 x1 x2 : FVec Ideal S96x5888 .bf16) (x3 : FVec Ideal S1x4096 .f32)
  (x4 : FVec Ideal S9x96x96 .bf16) (x5 : FVec Ideal S96x1 .f32) (x6 : FVec Ideal S9x96x96 .bf16)
  (x7 : FVec Ideal S96x1 .f32) (x8 : FVec Ideal S9x96x96 .bf16) (x9 : FVec Ideal S96x1 .f32)

/-- The scaled query at a lane. -/
theorem q_at (W : ℕ → Fin 96 → Fin 96 → EReal) (B : Fin 96 → EReal) (X : Fin 96 → ℕ → EReal)
    (hw : ∀ (k : Fin 9) (o c : Fin 96), x4 (ix3 k o c) = W k o c) (hb : ∀ o : Fin 96, x5 (ix2 o (0 : Fin 1)) = B o)
    (hx : ∀ (c : Fin 96) (j : Fin 5888), x0 (ix2 c j) = X c j) (o : Fin 96) (l : Fin 4096) :
    k0_pay131 (F := Ideal) i x0 x1 x2 x3 x4 x5 x6 x7 x8 x9 (ix2 o l)
      = ((∑ k ∈ Finset.range 9, ∑ c : Fin 96, W k o c * X c (639 + k / 3 * 256 + k % 3 + l)) + B o)
        * Named.named (F := Ideal) Cert.KernelIdeal.κ "inv_sqrt_c" (φ := .f32) 0x3DD105EC#32 := by
  pointwise [k0_pay131, k0_pay1, k0_pay2, k0_pay3, k0_pay4]
  simp only [hw, hx, hb]
  rw [← taps_sum]
  rfl

/-- The value convolution of the first image at a lane. -/
theorem v_at (W : ℕ → Fin 96 → Fin 96 → EReal) (B : Fin 96 → EReal) (X : Fin 96 → ℕ → EReal)
    (hw : ∀ (k : Fin 9) (o c : Fin 96), x8 (ix3 k o c) = W k o c) (hb : ∀ o : Fin 96, x9 (ix2 o (0 : Fin 1)) = B o)
    (hx : ∀ (c : Fin 96) (j : Fin 5888), x0 (ix2 c j) = X c j) (o : Fin 96) (l : Fin 4096) :
    k0_pay132 (F := Ideal) i x0 x1 x2 x3 x4 x5 x6 x7 x8 x9 (ix2 o l)
      = ((∑ k ∈ Finset.range 9, ∑ c : Fin 96, W k o c * X c (639 + k / 3 * 256 + k % 3 + l)) + B o) := by
  pointwise [k0_pay132, k0_pay5, k0_pay6, k0_pay7]
  simp only [hw, hx, hb]
  rw [← taps_sum]
  rfl

/-- The key convolution of the second image at a lane, without its bias. -/
theorem kb_at (W : ℕ → Fin 96 → Fin 96 → EReal) (X : Fin 96 → ℕ → EReal)
    (hw : ∀ (k : Fin 9) (o c : Fin 96), x6 (ix3 k o c) = W k o c)
    (hx : ∀ (c : Fin 96) (j : Fin 5888), x1 (ix2 c j) = X c j) (o : Fin 96) (l : Fin 5248) :
    k0_pay134 (F := Ideal) i x0 x1 x2 x3 x4 x5 x6 x7 x8 x9 (ix2 o l)
      = (∑ k ∈ Finset.range 9, ∑ c : Fin 96, W k o c * X c (63 + k / 3 * 256 + k % 3 + l)) := by
  pointwise [k0_pay134, k0_pay9, k0_pay10]
  simp only [hw, hx]
  rw [← taps_sum]
  rfl

/-- The key convolution of the third image at a lane, with its bias. -/
theorem kf_at (W : ℕ → Fin 96 → Fin 96 → EReal) (B : Fin 96 → EReal) (X : Fin 96 → ℕ → EReal)
    (hw : ∀ (k : Fin 9) (o c : Fin 96), x6 (ix3 k o c) = W k o c) (hb : ∀ o : Fin 96, x7 (ix2 o (0 : Fin 1)) = B o)
    (hx : ∀ (c : Fin 96) (j : Fin 5888), x2 (ix2 c j) = X c j) (o : Fin 96) (l : Fin 5248) :
    k0_pay158 (F := Ideal) i x0 x1 x2 x3 x4 x5 x6 x7 x8 x9 (ix2 o l)
      = ((∑ k ∈ Finset.range 9, ∑ c : Fin 96, W k o c * X c (63 + k / 3 * 256 + k % 3 + l)) + B o) := by
  pointwise [k0_pay158, k0_pay42, k0_pay43, k0_pay44, k0_pay45, k0_pay46]
  simp only [hw, hx, hb]
  rw [← taps_sum]
  rfl

end Cert.KernelIdeal.Value

end
-- ==== Proof.KMask.lean ====
/-
  What one grid point of the kernel does to a key convolution: outside the image it is replaced by zero.
-/
module

public import proofs.«01_k».proof.Proof.Gen.KernelIdeal.Frame
public import proofs.«01_k».proof.Proof.Spec
public import Idealize.ShloMosaic.Lib.Pointwise
public import Idealize.ShloMosaic.Lib.WordArith

@[expose] public section

set_option maxRecDepth 16384

noncomputable section

open Idealize.ShloMosaic Idealize.ShloMosaic.TcCoe Idealize.SL.Sem

namespace Cert.KernelIdeal.Value

open Cert.KernelIdeal Cert.KernelIdeal.Gen Idealize.ShloMosaic.WordArith

/-- The bit the kernel computes at a position `e` of the image: 1 when `e` is in the image and its column is below 224. -/
theorem bit_of (z : BitVec 32) (e : ℤ) (h : z.toInt = e) :
    IntOp.andi (IntOp.andi (IntOp.cmpi .sge z 0#32) (IntOp.cmpi .slt z 57344#32))
        (IntOp.cmpi .slt (IntOp.remsi .vector z 256#32) 224#32)
      = if 0 ≤ e ∧ e < 57344 ∧ e % 256 < 224 then 1#1 else 0#1 := by
  have h1 : (57344#32 : BitVec 32).toInt = 57344 := by decide
  have h2 : (256#32 : BitVec 32).toInt = 256 := by decide
  have h3 : (224#32 : BitVec 32).toInt = 224 := by decide
  have h4 : (0#32 : BitVec 32).toInt = 0 := by decide
  rw [IntOp.remsi_of_pos _ (by rw [h2]; norm_num)]
  unfold IntOp.cmpi
  simp only [andi_ofBool, BitVec.slt, BitVec.sle, BitVec.toInt_srem, h, h1, h2, h3, h4]
  by_cases h0 : 0 ≤ e
  · rw [Int.tmod_eq_emod_of_nonneg h0]
    by_cases hc : 0 ≤ e ∧ e < 57344 ∧ e % 256 < 224
    · rw [if_pos hc]; simp [hc.1, hc.2.1, hc.2.2]
    · rw [if_neg hc]
      have : (decide (0 ≤ e) && decide (e < 57344) && decide (e % 256 < 224)) = false := by
        rw [Bool.eq_false_iff]; intro hh; apply hc
        simpa [Bool.and_eq_true, and_assoc] using hh
      rw [this]; rfl
  · rw [if_neg (fun hh => h0 hh.1)]
    simp [h0]

/-- The position word of lane `j` of grid point `t`. -/
theorem pos_word (t j : ℕ) (ht : t < 14) (hj : j < 5248) :
    (IntOp.addi (BitVec.ofNat 32 j) (Scalar.subi (Scalar.muli (BitVec.ofNat 32 t) 4096#32) 576#32)).toInt
      = ((t * 4096 + j : ℕ) : ℤ) - 576 := by
  unfold Scalar.subi Scalar.muli IntOp.addi IntOp.subi IntOp.muli
  have h2 : (4096#32 : BitVec 32).toInt = 4096 := by decide
  have h3 : (576#32 : BitVec 32).toInt = 576 := by decide
  have hT := toInt_ofNat_small t (by omega)
  have hJ := toInt_ofNat_small j (by omega)
  have hm : (BitVec.ofNat 32 t * 4096#32).toInt = (t : ℤ) * 4096 := by
    rw [toInt_mul_of_bounds] <;> rw [hT, h2] <;> omega
  have hs : (BitVec.ofNat 32 t * 4096#32 - 576#32).toInt = (t : ℤ) * 4096 - 576 := by
    rw [toInt_sub_of_bounds] <;> rw [hm, h3] <;> omega
  rw [toInt_add_of_bounds] <;> rw [hJ, hs] <;> push_cast <;> omega

/-- The 0/1 word of a bit as an extended real. -/
theorem real_of_bit (p : Prop) [Decidable p] :
    (FloatOps.sitofp (F := Ideal) .f32 (BitVec.setWidth 32 (if p then 1#1 else 0#1)) : EReal) = if p then 1 else 0 := by
  by_cases h : p
  · rw [if_pos h, if_pos h]
    show (((BitVec.setWidth 32 1#1).toInt : ℝ) : EReal) = 1
    rw [show (BitVec.setWidth 32 1#1).toInt = 1 by decide]; norm_num
  · rw [if_neg h, if_neg h]
    show (((BitVec.setWidth 32 0#1).toInt : ℝ) : EReal) = 0
    rw [show (BitVec.setWidth 32 0#1).toInt = 0 by decide]; norm_num

/-- Multiplying by the mask keeps the value inside the image and puts zero outside. -/
theorem times_bit (x : EReal) (t j : ℕ) (ht : t < 14) (hj : j < 5248) :
    x * (FloatOps.sitofp (F := Ideal) .f32 (BitVec.setWidth 32
          (IntOp.andi
            (IntOp.andi
              (IntOp.cmpi .sge (IntOp.addi (BitVec.ofNat 32 j) (Scalar.subi (Scalar.muli (BitVec.ofNat 32 t) 4096#32) 576#32)) 0#32)
              (IntOp.cmpi .slt (IntOp.addi (BitVec.ofNat 32 j) (Scalar.subi (Scalar.muli (BitVec.ofNat 32 t) 4096#32) 576#32)) 57344#32))
            (IntOp.cmpi .slt (IntOp.remsi .vector
              (IntOp.addi (BitVec.ofNat 32 j) (Scalar.subi (Scalar.muli (BitVec.ofNat 32 t) 4096#32) 576#32)) 256#32) 224#32))) : EReal)
      = if 576 ≤ t * 4096 + j ∧ t * 4096 + j < 57920 ∧ (t * 4096 + j + 448) % 256 < 224 then x else 0 := by
  rw [bit_of _ _ (pos_word t j ht hj), real_of_bit]
  by_cases h : 576 ≤ t * 4096 + j ∧ t * 4096 + j < 57920 ∧ (t * 4096 + j + 448) % 256 < 224
  · rw [if_pos h, if_pos (by omega), mul_one]
  · rw [if_neg h, if_neg (by omega), mul_zero]

/-- The key of the second image: the convolution with its bias inside the image, zero outside. -/
theorem keep_b (t : ℕ) (ht : t < 14) (y : FVec Ideal S96x5248 .f32) (b : FVec Ideal S96x1 .f32) (o : Fin 96) (j : Fin 5248) :
    k0_pay11 (F := Ideal) (Scalar.muli (BitVec.ofNat 32 t) 4096#32) y b (ix2 o j)
      = if 576 ≤ t * 4096 + j ∧ t * 4096 + j < 57920 ∧ (t * 4096 + j + 448) % 256 < 224
        then y (ix2 o j) + b (ix2 o (0 : Fin 1)) else 0 := by
  pointwise [k0_pay11]
  exact times_bit _ t j ht j.isLt

/-- The key of the third image: the convolution inside the image, zero outside. -/
theorem keep_f (t : ℕ) (ht : t < 14) (y : FVec Ideal S96x5248 .f32) (o : Fin 96) (j : Fin 5248) :
    k0_pay49 (F := Ideal) y (k0_pay47 (Scalar.muli (BitVec.ofNat 32 t) 4096#32))
        (k0_pay48 (Scalar.muli (BitVec.ofNat 32 t) 4096#32)) (ix2 o j)
      = if 576 ≤ t * 4096 + j ∧ t * 4096 + j < 57920 ∧ (t * 4096 + j + 448) % 256 < 224
        then y (ix2 o j) else 0 := by
  pointwise [k0_pay49, k0_pay47, k0_pay48]
  exact times_bit _ t j ht j.isLt

end Cert.KernelIdeal.Value

end
-- ==== Proof.KAttn.lean ====
/-
  What one grid point of the kernel computes after its convolutions, over any values of the query and the keys: the 25
  scores of a lane, their normalised exponentials, and the weighted sum of the keys.
-/
module

public import proofs.«01_k».proof.Proof.Gen.KernelIdeal.Frame
public import proofs.«01_k».proof.Proof.Spec
public import proofs.«01_k».proof.Proof.KMask
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

variable (i : grid0.Coords) (x0 x1 x2 : FVec Ideal S96x5888 .bf16) (x3 : FVec Ideal S1x4096 .f32)
  (x4 : FVec Ideal S9x96x96 .bf16) (x5 : FVec Ideal S96x1 .f32) (x6 : FVec Ideal S9x96x96 .bf16)
  (x7 : FVec Ideal S96x1 .f32) (x8 : FVec Ideal S9x96x96 .bf16) (x9 : FVec Ideal S96x1 .f32)

/-- The score of lane `l` against its neighbour number `p`. -/
def score (Q K : Fin 96 → ℕ → EReal) (p l : ℕ) : EReal := ∑ c : Fin 96, Q c l * K c (62 + p / 5 * 256 + p % 5 + l)

/-- The weight of neighbour `p` of lane `l`: its exponential over the sum of the 25 exponentials. -/
def weight (Q K : Fin 96 → ℕ → EReal) (p l : ℕ) : EReal :=
  Ideal.exp (score Q K p l) * Ideal.div 1 (∑ r : Fin 25, Ideal.exp (score Q K r l))

/-- The weighted sum of the 25 neighbours of lane `l`. -/
def gathered (Q K : Fin 96 → ℕ → EReal) (o : Fin 96) (l : ℕ) : EReal :=
  ∑ p ∈ Finset.range 25, weight Q K p l * K o (62 + p / 5 * 256 + p % 5 + l)

set_option maxHeartbeats 1600000 in
/-- The 25 scores against the second image. -/
theorem scores_b (Q K : Fin 96 → ℕ → EReal)
    (hQ : ∀ (c : Fin 96) (l : Fin 4096), k0_pay131 (F := Ideal) i x0 x1 x2 x3 x4 x5 x6 x7 x8 x9 (ix2 c l) = Q c l)
    (hK : ∀ (c : Fin 96) (j : Fin 5248), k0_pay135 (F := Ideal) i x0 x1 x2 x3 x4 x5 x6 x7 x8 x9 (ix2 c j) = K c j)
    (p : Fin 25) (l : Fin 4096) :
    k0_pay32 (F := Ideal) (k0_pay131 (F := Ideal) i x0 x1 x2 x3 x4 x5 x6 x7 x8 x9) (k0_pay135 (F := Ideal) i x0 x1 x2 x3 x4 x5 x6 x7 x8 x9) (k0_pay136 (F := Ideal) i x0 x1 x2 x3 x4 x5 x6 x7 x8 x9) (k0_pay137 (F := Ideal) i x0 x1 x2 x3 x4 x5 x6 x7 x8 x9) (k0_pay138 (F := Ideal) i x0 x1 x2 x3 x4 x5 x6 x7 x8 x9) (k0_pay139 (F := Ideal) i x0 x1 x2 x3 x4 x5 x6 x7 x8 x9) (k0_pay140 (F := Ideal) i x0 x1 x2 x3 x4 x5 x6 x7 x8 x9) (k0_pay141 (F := Ideal) i x0 x1 x2 x3 x4 x5 x6 x7 x8 x9) (k0_pay142 (F := Ideal) i x0 x1 x2 x3 x4 x5 x6 x7 x8 x9) (k0_pay143 (F := Ideal) i x0 x1 x2 x3 x4 x5 x6 x7 x8 x9) (k0_pay144 (F := Ideal) i x0 x1 x2 x3 x4 x5 x6 x7 x8 x9) (k0_pay145 (F := Ideal) i x0 x1 x2 x3 x4 x5 x6 x7 x8 x9) (k0_pay146 (F := Ideal) i x0 x1 x2 x3 x4 x5 x6 x7 x8 x9) (k0_pay147 (F := Ideal) i x0 x1 x2 x3 x4 x5 x6 x7 x8 x9) (k0_pay148 (F := Ideal) i x0 x1 x2 x3 x4 x5 x6 x7 x8 x9) (k0_pay149 (F := Ideal) i x0 x1 x2 x3 x4 x5 x6 x7 x8 x9) (k0_pay150 (F := Ideal) i x0 x1 x2 x3 x4 x5 x6 x7 x8 x9) (k0_pay151 (F := Ideal) i x0 x1 x2 x3 x4 x5 x6 x7 x8 x9) (k0_pay152 (F := Ideal) i x0 x1 x2 x3 x4 x5 x6 x7 x8 x9) (k0_pay153 (F := Ideal) i x0 x1 x2 x3 x4 x5 x6 x7 x8 x9) (k0_pay154 (F := Ideal) i x0 x1 x2 x3 x4 x5 x6 x7 x8 x9) (ix2 p l) = score Q K p l := by
  have hK' : ∀ (c : Fin 96) (j : Fin 5248),
      k0_pay11 (F := Ideal) (Scalar.muli (BitVec.ofNat 32 (i 0).val) 4096#32) (k0_pay134 (F := Ideal) i x0 x1 x2 x3 x4 x5 x6 x7 x8 x9) (View.ld x7 r0_18) (ix2 c j) = K c j := hK
  pointwise [k0_pay32, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  fin_vals p with hp
  all_goals simp only [hp, Nat.reduceSub, Nat.reduceLT, ↓reduceDIte, ↓reduceIte, hQ, hK, hK']
  all_goals rfl

set_option maxHeartbeats 1600000 in
/-- The 25 scores against the third image. -/
theorem scores_f (Q K : Fin 96 → ℕ → EReal)
    (hQ : ∀ (c : Fin 96) (l : Fin 4096), k0_pay131 (F := Ideal) i x0 x1 x2 x3 x4 x5 x6 x7 x8 x9 (ix2 c l) = Q c l)
    (hK : ∀ (c : Fin 96) (j : Fin 5248), k0_pay161 (F := Ideal) i x0 x1 x2 x3 x4 x5 x6 x7 x8 x9 (ix2 c j) = K c j)
    (p : Fin 25) (l : Fin 4096) :
    k0_pay184 (F := Ideal) i x0 x1 x2 x3 x4 x5 x6 x7 x8 x9 (ix2 p l) = score Q K p l := by
  have hK' : ∀ (c : Fin 96) (j : Fin 5248),
      k0_pay49 (F := Ideal) (k0_pay158 (F := Ideal) i x0 x1 x2 x3 x4 x5 x6 x7 x8 x9) (k0_pay159 (F := Ideal) i x0 x1 x2 x3 x4 x5 x6 x7 x8 x9) (k0_pay160 (F := Ideal) i x0 x1 x2 x3 x4 x5 x6 x7 x8 x9) (ix2 c j) = K c j := hK
  pointwise [k0_pay184, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
  fin_vals p with hp
  all_goals simp only [hp, Nat.reduceSub, Nat.reduceLT, ↓reduceDIte, ↓reduceIte, hQ, hK, hK']
  all_goals rfl

/-- The weights of the second image. -/
theorem weights_b (Q K : Fin 96 → ℕ → EReal)
    (hQ : ∀ (c : Fin 96) (l : Fin 4096), k0_pay131 (F := Ideal) i x0 x1 x2 x3 x4 x5 x6 x7 x8 x9 (ix2 c l) = Q c l)
    (hK : ∀ (c : Fin 96) (j : Fin 5248), k0_pay135 (F := Ideal) i x0 x1 x2 x3 x4 x5 x6 x7 x8 x9 (ix2 c j) = K c j)
    (p : Fin 25) (l : Fin 4096) :
    k0_pay155 (F := Ideal) i x0 x1 x2 x3 x4 x5 x6 x7 x8 x9 (ix2 p l) = weight Q K p l := by
  have h := scores_b i x0 x1 x2 x3 x4 x5 x6 x7 x8 x9 Q K hQ hK
  pointwise [k0_pay155, k0_pay33]
  unfold weight
  refine congrArg₂ (· * ·) (congrArg Ideal.exp (h p l)) ?_
  exact congrArg (Ideal.div 1) (Finset.sum_congr rfl fun r _ => congrArg Ideal.exp (h r l))

/-- The weights of the third image. -/
theorem weights_f (Q K : Fin 96 → ℕ → EReal)
    (hQ : ∀ (c : Fin 96) (l : Fin 4096), k0_pay131 (F := Ideal) i x0 x1 x2 x3 x4 x5 x6 x7 x8 x9 (ix2 c l) = Q c l)
    (hK : ∀ (c : Fin 96) (j : Fin 5248), k0_pay161 (F := Ideal) i x0 x1 x2 x3 x4 x5 x6 x7 x8 x9 (ix2 c j) = K c j)
    (p : Fin 25) (l : Fin 4096) :
    k0_pay185 (F := Ideal) i x0 x1 x2 x3 x4 x5 x6 x7 x8 x9 (ix2 p l) = weight Q K p l := by
  have h := scores_f i x0 x1 x2 x3 x4 x5 x6 x7 x8 x9 Q K hQ hK
  pointwise [k0_pay185, k0_pay74]
  unfold weight
  refine congrArg₂ (· * ·) (congrArg Ideal.exp (h p l)) ?_
  exact congrArg (Ideal.div 1) (Finset.sum_congr rfl fun r _ => congrArg Ideal.exp (h r l))

/-- Twenty-five terms written one by one, in the kernel's order, are the sum over the window. -/
theorem window_sum (f : ℕ → EReal) :
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 = ∑ p ∈ Finset.range 25, f p := by
  simp only [Finset.sum_range_succ, Finset.sum_range_zero, zero_add]

set_option maxHeartbeats 1600000 in
/-- The second image gathered with its weights, times the mask. -/
theorem gathered_b (Q K : Fin 96 → ℕ → EReal)
    (hQ : ∀ (c : Fin 96) (l : Fin 4096), k0_pay131 (F := Ideal) i x0 x1 x2 x3 x4 x5 x6 x7 x8 x9 (ix2 c l) = Q c l)
    (hK : ∀ (c : Fin 96) (j : Fin 5248), k0_pay135 (F := Ideal) i x0 x1 x2 x3 x4 x5 x6 x7 x8 x9 (ix2 c j) = K c j)
    (o : Fin 96) (l : Fin 4096) :
    k0_pay157 (F := Ideal) i x0 x1 x2 x3 x4 x5 x6 x7 x8 x9 (ix2 o l) = gathered Q K o l * k0_pay133 (F := Ideal) i x0 x1 x2 x3 x4 x5 x6 x7 x8 x9 (ix2 (0 : Fin 1) l) := by
  have h := weights_b i x0 x1 x2 x3 x4 x5 x6 x7 x8 x9 Q K hQ hK
  have h' : ∀ (p : Fin 25) (l : Fin 4096),
      k0_pay33 (F := Ideal) (k0_pay131 (F := Ideal) i x0 x1 x2 x3 x4 x5 x6 x7 x8 x9) (k0_pay135 (F := Ideal) i x0 x1 x2 x3 x4 x5 x6 x7 x8 x9) (k0_pay136 (F := Ideal) i x0 x1 x2 x3 x4 x5 x6 x7 x8 x9) (k0_pay137 (F := Ideal) i x0 x1 x2 x3 x4 x5 x6 x7 x8 x9) (k0_pay138 (F := Ideal) i x0 x1 x2 x3 x4 x5 x6 x7 x8 x9) (k0_pay139 (F := Ideal) i x0 x1 x2 x3 x4 x5 x6 x7 x8 x9) (k0_pay140 (F := Ideal) i x0 x1 x2 x3 x4 x5 x6 x7 x8 x9) (k0_pay141 (F := Ideal) i x0 x1 x2 x3 x4 x5 x6 x7 x8 x9) (k0_pay142 (F := Ideal) i x0 x1 x2 x3 x4 x5 x6 x7 x8 x9) (k0_pay143 (F := Ideal) i x0 x1 x2 x3 x4 x5 x6 x7 x8 x9) (k0_pay144 (F := Ideal) i x0 x1 x2 x3 x4 x5 x6 x7 x8 x9) (k0_pay145 (F := Ideal) i x0 x1 x2 x3 x4 x5 x6 x7 x8 x9) (k0_pay146 (F := Ideal) i x0 x1 x2 x3 x4 x5 x6 x7 x8 x9) (k0_pay147 (F := Ideal) i x0 x1 x2 x3 x4 x5 x6 x7 x8 x9) (k0_pay148 (F := Ideal) i x0 x1 x2 x3 x4 x5 x6 x7 x8 x9) (k0_pay149 (F := Ideal) i x0 x1 x2 x3 x4 x5 x6 x7 x8 x9) (k0_pay150 (F := Ideal) i x0 x1 x2 x3 x4 x5 x6 x7 x8 x9) (k0_pay151 (F := Ideal) i x0 x1 x2 x3 x4 x5 x6 x7 x8 x9) (k0_pay152 (F := Ideal) i x0 x1 x2 x3 x4 x5 x6 x7 x8 x9) (k0_pay153 (F := Ideal) i x0 x1 x2 x3 x4 x5 x6 x7 x8 x9) (k0_pay154 (F := Ideal) i x0 x1 x2 x3 x4 x5 x6 x7 x8 x9) (ix2 p l) = weight Q K p l := h
  pointwise [k0_pay157, k0_pay41, k0_pay37, k0_pay34, k0_pay35, k0_pay36, k0_pay38, k0_pay39]
  simp only [h, h', hK]
  unfold gathered
  rw [← window_sum]
  rfl

set_option maxHeartbeats 1600000 in
/-- The first result: the value plus both gathered images. -/
theorem total_at (Q K : Fin 96 → ℕ → EReal)
    (hQ : ∀ (c : Fin 96) (l : Fin 4096), k0_pay131 (F := Ideal) i x0 x1 x2 x3 x4 x5 x6 x7 x8 x9 (ix2 c l) = Q c l)
    (hK : ∀ (c : Fin 96) (j : Fin 5248), k0_pay161 (F := Ideal) i x0 x1 x2 x3 x4 x5 x6 x7 x8 x9 (ix2 c j) = K c j)
    (o : Fin 96) (l : Fin 4096) :
    k0_pay190 (F := Ideal) i x0 x1 x2 x3 x4 x5 x6 x7 x8 x9 (ix2 o l) = (k0_pay132 (F := Ideal) i x0 x1 x2 x3 x4 x5 x6 x7 x8 x9 (ix2 o l) + k0_pay157 (F := Ideal) i x0 x1 x2 x3 x4 x5 x6 x7 x8 x9 (ix2 o l))
      + gathered Q K o l * k0_pay133 (F := Ideal) i x0 x1 x2 x3 x4 x5 x6 x7 x8 x9 (ix2 (0 : Fin 1) l) := by
  have h := weights_f i x0 x1 x2 x3 x4 x5 x6 x7 x8 x9 Q K hQ hK
  have h' : ∀ (p : Fin 25) (l : Fin 4096),
      k0_pay74 (F := Ideal) (k0_pay131 (F := Ideal) i x0 x1 x2 x3 x4 x5 x6 x7 x8 x9) (k0_pay161 (F := Ideal) i x0 x1 x2 x3 x4 x5 x6 x7 x8 x9) (k0_pay162 (F := Ideal) i x0 x1 x2 x3 x4 x5 x6 x7 x8 x9) (k0_pay163 (F := Ideal) i x0 x1 x2 x3 x4 x5 x6 x7 x8 x9) (k0_pay164 (F := Ideal) i x0 x1 x2 x3 x4 x5 x6 x7 x8 x9) (k0_pay165 (F := Ideal) i x0 x1 x2 x3 x4 x5 x6 x7 x8 x9) (k0_pay166 (F := Ideal) i x0 x1 x2 x3 x4 x5 x6 x7 x8 x9) (k0_pay167 (F := Ideal) i x0 x1 x2 x3 x4 x5 x6 x7 x8 x9) (k0_pay168 (F := Ideal) i x0 x1 x2 x3 x4 x5 x6 x7 x8 x9) (k0_pay169 (F := Ideal) i x0 x1 x2 x3 x4 x5 x6 x7 x8 x9) (k0_pay170 (F := Ideal) i x0 x1 x2 x3 x4 x5 x6 x7 x8 x9) (k0_pay171 (F := Ideal) i x0 x1 x2 x3 x4 x5 x6 x7 x8 x9) (k0_pay172 (F := Ideal) i x0 x1 x2 x3 x4 x5 x6 x7 x8 x9) (k0_pay173 (F := Ideal) i x0 x1 x2 x3 x4 x5 x6 x7 x8 x9) (k0_pay174 (F := Ideal) i x0 x1 x2 x3 x4 x5 x6 x7 x8 x9) (k0_pay175 (F := Ideal) i x0 x1 x2 x3 x4 x5 x6 x7 x8 x9) (k0_pay176 (F := Ideal) i x0 x1 x2 x3 x4 x5 x6 x7 x8 x9) (k0_pay177 (F := Ideal) i x0 x1 x2 x3 x4 x5 x6 x7 x8 x9) (k0_pay178 (F := Ideal) i x0 x1 x2 x3 x4 x5 x6 x7 x8 x9) (k0_pay179 (F := Ideal) i x0 x1 x2 x3 x4 x5 x6 x7 x8 x9) (k0_pay180 (F := Ideal) i x0 x1 x2 x3 x4 x5 x6 x7 x8 x9) (k0_pay181 (F := Ideal) i x0 x1 x2 x3 x4 x5 x6 x7 x8 x9) (k0_pay182 (F := Ideal) i x0 x1 x2 x3 x4 x5 x6 x7 x8 x9) (k0_pay183 (F := Ideal) i x0 x1 x2 x3 x4 x5 x6 x7 x8 x9) (ix2 p l) = weight Q K p l := h
  pointwise [k0_pay190, k0_pay82, k0_pay186, k0_pay187, k0_pay188, k0_pay75, k0_pay76, k0_pay77, k0_pay78, k0_pay79, k0_pay80]
  simp only [h, h', hK]
  unfold gathered
  rw [← window_sum]
  rfl

/-- The second result: the scores against the second image, times the mask. -/
theorem masked_b (Q K : Fin 96 → ℕ → EReal)
    (hQ : ∀ (c : Fin 96) (l : Fin 4096), k0_pay131 (F := Ideal) i x0 x1 x2 x3 x4 x5 x6 x7 x8 x9 (ix2 c l) = Q c l)
    (hK : ∀ (c : Fin 96) (j : Fin 5248), k0_pay135 (F := Ideal) i x0 x1 x2 x3 x4 x5 x6 x7 x8 x9 (ix2 c j) = K c j)
    (p : Fin 25) (l : Fin 4096) :
    k0_pay156 (F := Ideal) i x0 x1 x2 x3 x4 x5 x6 x7 x8 x9 (ix2 p l) = score Q K p l * k0_pay133 (F := Ideal) i x0 x1 x2 x3 x4 x5 x6 x7 x8 x9 (ix2 (0 : Fin 1) l) := by
  have h := scores_b i x0 x1 x2 x3 x4 x5 x6 x7 x8 x9 Q K hQ hK
  pointwise [k0_pay156, k0_pay40]
  exact congrArg (· * _) (h p l)

/-- The third result: the scores against the third image, times the mask. -/
theorem masked_f (Q K : Fin 96 → ℕ → EReal)
    (hQ : ∀ (c : Fin 96) (l : Fin 4096), k0_pay131 (F := Ideal) i x0 x1 x2 x3 x4 x5 x6 x7 x8 x9 (ix2 c l) = Q c l)
    (hK : ∀ (c : Fin 96) (j : Fin 5248), k0_pay161 (F := Ideal) i x0 x1 x2 x3 x4 x5 x6 x7 x8 x9 (ix2 c j) = K c j)
    (p : Fin 25) (l : Fin 4096) :
    k0_pay189 (F := Ideal) i x0 x1 x2 x3 x4 x5 x6 x7 x8 x9 (ix2 p l) = score Q K p l * k0_pay133 (F := Ideal) i x0 x1 x2 x3 x4 x5 x6 x7 x8 x9 (ix2 (0 : Fin 1) l) := by
  have h := scores_f i x0 x1 x2 x3 x4 x5 x6 x7 x8 x9 Q K hQ hK
  pointwise [k0_pay189, k0_pay81]
  exact congrArg (· * _) (h p l)

/-- The mask of a lane is 1 where the mask image is not zero and 0 where it is. -/
theorem mask_at (l : Fin 4096) :
    k0_pay133 (F := Ideal) i x0 x1 x2 x3 x4 x5 x6 x7 x8 x9 (ix2 (0 : Fin 1) l) = if x3 (ix2 (0 : Fin 1) l) ≠ (0 : EReal) then (1 : EReal) else 0 := by
  pointwise [k0_pay133, k0_pay8]
  by_cases h : x3 (ix2 (0 : Fin 1) l) = (0 : EReal)
  · rw [if_neg (fun hh => hh h), h]
    exact (congrArg (fun b => (FloatOps.sitofp (F := Ideal) .f32 (BitVec.setWidth 32 b) : EReal)) (by simp)).trans
      (real_of_bit False)
  · rw [if_pos h]
    exact (congrArg (fun b => (FloatOps.sitofp (F := Ideal) .f32 (BitVec.setWidth 32 b) : EReal)) (by simp [h])).trans
      (real_of_bit True)

end Cert.KernelIdeal.Value

end
-- ==== Proof.Attend.lean ====
/-
  The attention of one pixel as the kernel spells it: the scores from a query already scaled, the weights by the exponentials
  and one reciprocal, the weighted sum of the window.
-/
module

public import proofs.«01_k».proof.Proof.Spec
public import Idealize.ShloMosaic.PureOps.Ideal

@[expose] public section

noncomputable section

namespace Cert.Attn

open Idealize.ShloMosaic

/-- The score of neighbour `p` of a pixel, the query scaled by `s` first. -/
def scoreOf (s : EReal) (Q K : Img) (r w p : ℕ) : EReal :=
  ∑ c : Fin 96, (Q c r w * s) * padAt 2 K c (r + p / 5) (w + p % 5)

/-- The weight of neighbour `p`, from the 25 scores `S`. -/
def weightOf (S : ℕ → EReal) (p : ℕ) : EReal :=
  Ideal.exp (S p) * Ideal.div 1 (∑ q : Fin 25, Ideal.exp (S q))

/-- The window of a pixel summed with its weights. -/
def gatherOf (s : EReal) (Q K : Img) (o : Fin 96) (r w : ℕ) : EReal :=
  ∑ p ∈ Finset.range 25, weightOf (scoreOf s Q K r w) p * padAt 2 K o (r + p / 5) (w + p % 5)

/-- One where the mask value is not zero, zero where it is. -/
def bitOf (m : EReal) : EReal := if m ≠ 0 then 1 else 0

/-- One masked score. -/
def logitOf (s : EReal) (Q K : Img) (M : ℕ → ℕ → EReal) (p r w : ℕ) : EReal := scoreOf s Q K r w p * bitOf (M r w)

/-- One pixel of the first result: the value and the two masked gathered keys. -/
def pixelOf (s : EReal) (V Q K K' : Img) (M : ℕ → ℕ → EReal) (o : Fin 96) (r w : ℕ) : EReal :=
  (V o r w + gatherOf s Q K o r w * bitOf (M r w)) + gatherOf s Q K' o r w * bitOf (M r w)

end Cert.Attn

end
-- ==== Proof.KPoint.lean ====
/-
  What one grid point of the kernel leaves at a lane, in terms of the images: the staged blocks are the images in the flat
  layout, so each lane of a real column holds the attention of its pixel.
-/
module

public import proofs.«01_k».proof.Proof.KConv
public import proofs.«01_k».proof.Proof.KAttn
public import proofs.«01_k».proof.Proof.Attend

@[expose] public section

set_option maxRecDepth 16384

noncomputable section

open Idealize.ShloMosaic Idealize.ShloMosaic.TcCoe Idealize.SL.Sem

namespace Cert.KernelIdeal.Value

open Cert.KernelIdeal Cert.KernelIdeal.Gen Cert.Attn

/-- The number the kernel scales its query by. -/
def scale : EReal := Named.named (F := Ideal) Cert.KernelIdeal.κ "inv_sqrt_c" (φ := .f32) 0x3DD105EC#32

variable (i : grid0.Coords) (x0 x1 x2 : FVec Ideal S96x5888 .bf16) (x3 : FVec Ideal S1x4096 .f32)
  (x4 : FVec Ideal S9x96x96 .bf16) (x5 : FVec Ideal S96x1 .f32) (x6 : FVec Ideal S9x96x96 .bf16)
  (x7 : FVec Ideal S96x1 .f32) (x8 : FVec Ideal S9x96x96 .bf16) (x9 : FVec Ideal S96x1 .f32)

variable (Wq Wk Wv : ℕ → Fin 96 → Fin 96 → EReal) (Bq Bk Bv : Fin 96 → EReal) (Zx Zb Zf : Img) (M : ℕ → ℕ → EReal)

/-- The staged blocks of grid point `i` hold these weights, biases, images and mask. -/
structure Holds : Prop where
  x : ∀ (c : Fin 96) (j : Fin 5888), x0 (ix2 c j) = flat Zx c ((i 0).val * 4096 + j + 128)
  b : ∀ (c : Fin 96) (j : Fin 5888), x1 (ix2 c j) = flat Zb c ((i 0).val * 4096 + j + 128)
  f : ∀ (c : Fin 96) (j : Fin 5888), x2 (ix2 c j) = flat Zf c ((i 0).val * 4096 + j + 128)
  mask : ∀ l : Fin 4096, (l : ℕ) % 256 < 224 → x3 (ix2 (0 : Fin 1) l) = M ((i 0).val * 16 + l / 256) (l % 256)
  wq : ∀ (k : Fin 9) (o c : Fin 96), x4 (ix3 k o c) = Wq k o c
  bq : ∀ o : Fin 96, x5 (ix2 o (0 : Fin 1)) = Bq o
  wk : ∀ (k : Fin 9) (o c : Fin 96), x6 (ix3 k o c) = Wk k o c
  bk : ∀ o : Fin 96, x7 (ix2 o (0 : Fin 1)) = Bk o
  wv : ∀ (k : Fin 9) (o c : Fin 96), x8 (ix3 k o c) = Wv k o c
  bv : ∀ o : Fin 96, x9 (ix2 o (0 : Fin 1)) = Bv o

variable (H : Holds i x0 x1 x2 x3 x4 x5 x6 x7 x8 x9 Wq Wk Wv Bq Bk Bv Zx Zb Zf M)

/-- A grid coordinate is below 14. -/
theorem coord_lt (i : grid0.Coords) : (i 0).val < 14 := (i 0).isLt

/-- Taps of a block holding a flat image, at a lane of a real column, are the convolution of the image. -/
theorem lane_conv (W : ℕ → Fin 96 → Fin 96 → EReal) (B : Fin 96 → EReal) (Z : Img) (t l : ℕ) (ht : t < 14) (hl : l < 4096)
    (hc : l % 256 < 224) (o : Fin 96) :
    (∑ k ∈ Finset.range 9, ∑ c : Fin 96, W k o c * flat Z c (t * 4096 + (639 + k / 3 * 256 + k % 3 + l) + 128)) + B o
      = conv W B Z o (t * 16 + l / 256) (l % 256) := by
  have h := conv_flat W B Z o (t * 4096 + l + 1024) (by omega) (by omega) (by omega)
  rw [show (t * 4096 + l + 1024 - 1024) / 256 = t * 16 + l / 256 by omega,
    show (t * 4096 + l + 1024) % 256 = l % 256 by omega] at h
  exact (congrArg (· + B o) (Finset.sum_congr rfl fun k _ => Finset.sum_congr rfl fun c _ =>
    congrArg (fun n => W k o c * flat Z c n) (by omega))).trans h

/-- The masked key convolution of a block holding a flat image is the convolution of the image in the flat layout. -/
theorem lane_key (W : ℕ → Fin 96 → Fin 96 → EReal) (B : Fin 96 → EReal) (Z : Img) (t j : ℕ) (o : Fin 96) :
    (if 576 ≤ t * 4096 + j ∧ t * 4096 + j < 57920 ∧ (t * 4096 + j + 448) % 256 < 224
      then (∑ k ∈ Finset.range 9, ∑ c : Fin 96, W k o c * flat Z c (t * 4096 + (63 + k / 3 * 256 + k % 3 + j) + 128)) + B o
      else 0) = flat (conv W B Z) o (t * 4096 + j + 448) := by
  by_cases h : 576 ≤ t * 4096 + j ∧ t * 4096 + j < 57920 ∧ (t * 4096 + j + 448) % 256 < 224
  · have e := conv_flat W B Z o (t * 4096 + j + 448) (by omega) (by omega) (by omega)
    have r : flat (conv W B Z) o (t * 4096 + j + 448)
        = conv W B Z o ((t * 4096 + j + 448 - 1024) / 256) ((t * 4096 + j + 448) % 256) := by
      unfold flat; exact if_pos (by omega)
    rw [if_pos h, r]
    exact (congrArg (· + B o) (Finset.sum_congr rfl fun k _ => Finset.sum_congr rfl fun c _ =>
      congrArg (fun n => W k o c * flat Z c n) (by omega))).trans e
  · have r : flat (conv W B Z) o (t * 4096 + j + 448) = 0 := by
      unfold flat; exact if_neg (by omega)
    rw [if_neg h, r]

/-- The neighbour `p` of a lane of a real column, in a flat image, is the neighbour of its pixel in the padded image. -/
theorem lane_window (Y : Img) (t l p : ℕ) (ht : t < 14) (hl : l < 4096) (hc : l % 256 < 224) (hp : p < 25) (o : Fin 96) :
    flat Y o (t * 4096 + (62 + p / 5 * 256 + p % 5 + l) + 448)
      = padAt 2 Y o (t * 16 + l / 256 + p / 5) (l % 256 + p % 5) := by
  have h := flat_two Y o (t * 4096 + l + 1024) (p / 5) (p % 5) (by omega) (by omega) (by omega) (by omega) (by omega)
  rw [show (t * 4096 + l + 1024 - 1024) / 256 = t * 16 + l / 256 by omega,
    show (t * 4096 + l + 1024) % 256 = l % 256 by omega] at h
  exact (congrArg (flat Y o) (by omega)).trans h

/-- The scaled query of a block over its lanes. -/
def qlane (t : ℕ) (W : ℕ → Fin 96 → Fin 96 → EReal) (B : Fin 96 → EReal) (Z : Img) (c : Fin 96) (l : ℕ) : EReal :=
  ((∑ k ∈ Finset.range 9, ∑ e : Fin 96, W k c e * flat Z e (t * 4096 + (639 + k / 3 * 256 + k % 3 + l) + 128)) + B c)
    * scale

/-- The key of a block over its lanes. -/
def klane (t : ℕ) (W : ℕ → Fin 96 → Fin 96 → EReal) (B : Fin 96 → EReal) (Z : Img) (c : Fin 96) (j : ℕ) : EReal :=
  flat (conv W B Z) c (t * 4096 + j + 448)

include H

/-- The key of the second image, all over the block. -/
theorem key_b (o : Fin 96) (j : Fin 5248) :
    k0_pay135 (F := Ideal) i x0 x1 x2 x3 x4 x5 x6 x7 x8 x9 (ix2 o j) = flat (conv Wk Bk Zb) o ((i 0).val * 4096 + j + 448) := by
  have e : (View.ld (S := S96x1) (Val := Elt Ideal) (e' := .f32) x7 r0_18) (ix2 o (0 : Fin 1)) = Bk o := by
    rw [← H.bk o]; pointwise
  unfold k0_pay135
  rw [keep_b _ (coord_lt i), e, kb_at i x0 x1 x2 x3 x4 x5 x6 x7 x8 x9 Wk (fun c j => flat Zb c ((i 0).val * 4096 + j + 128)) H.wk H.b o j]
  exact lane_key Wk Bk Zb (i 0).val j o

/-- The key of the third image, all over the block. -/
theorem key_f (o : Fin 96) (j : Fin 5248) :
    k0_pay161 (F := Ideal) i x0 x1 x2 x3 x4 x5 x6 x7 x8 x9 (ix2 o j) = flat (conv Wk Bk Zf) o ((i 0).val * 4096 + j + 448) := by
  refine Eq.trans (keep_f (i 0).val (coord_lt i) (k0_pay158 (F := Ideal) i x0 x1 x2 x3 x4 x5 x6 x7 x8 x9) o j) ?_
  rw [← lane_key, kf_at i x0 x1 x2 x3 x4 x5 x6 x7 x8 x9 Wk Bk (fun c j => flat Zf c ((i 0).val * 4096 + j + 128)) H.wk H.bk H.f o j]

variable (l : Fin 4096) (hc : (l : ℕ) % 256 < 224)
include hc

/-- The value at a lane of a real column. -/
theorem value_lane (o : Fin 96) :
    k0_pay132 (F := Ideal) i x0 x1 x2 x3 x4 x5 x6 x7 x8 x9 (ix2 o l) = conv Wv Bv Zx o ((i 0).val * 16 + l / 256) (l % 256) := by
  refine (v_at i x0 x1 x2 x3 x4 x5 x6 x7 x8 x9 Wv Bv (fun c j => flat Zx c ((i 0).val * 4096 + j + 128)) H.wv H.bv H.x o l).trans ?_
  exact lane_conv Wv Bv Zx _ l (coord_lt i) l.isLt hc o

/-- The mask at a lane of a real column. -/
theorem mask_lane :
    k0_pay133 (F := Ideal) i x0 x1 x2 x3 x4 x5 x6 x7 x8 x9 (ix2 (0 : Fin 1) l) = bitOf (M ((i 0).val * 16 + l / 256) (l % 256)) := by
  rw [mask_at, H.mask l hc]; rfl

/-- The scores against image `Zb` at a lane of a real column are those of its pixel. -/
theorem score_b (p : ℕ) (hp : p < 25) :
    score (qlane (i 0).val Wq Bq Zx) (klane (i 0).val Wk Bk Zb) p l
      = scoreOf scale (conv Wq Bq Zx) (conv Wk Bk Zb) ((i 0).val * 16 + l / 256) (l % 256) p := by
  unfold score scoreOf
  exact Finset.sum_congr rfl fun c _ => congrArg₂ (· * ·)
    (congrArg (· * scale) (lane_conv Wq Bq Zx _ l (coord_lt i) l.isLt hc c))
    (lane_window _ _ l p (coord_lt i) l.isLt hc hp c)

/-- The gathered image `Zb` at a lane of a real column is that of its pixel. -/
theorem gather_b (o : Fin 96) :
    gathered (qlane (i 0).val Wq Bq Zx) (klane (i 0).val Wk Bk Zb) o l
      = gatherOf scale (conv Wq Bq Zx) (conv Wk Bk Zb) o ((i 0).val * 16 + l / 256) (l % 256) := by
  unfold gathered gatherOf weight weightOf
  refine Finset.sum_congr rfl fun p hp => ?_
  have hp := Finset.mem_range.1 hp
  exact congrArg₂ (· * ·) (congrArg₂ (· * ·)
    (congrArg Ideal.exp (score_b i x0 x1 x2 x3 x4 x5 x6 x7 x8 x9 Wq Wk Wv Bq Bk Bv Zx Zb Zf M H l hc p hp))
    (congrArg (Ideal.div 1) (Finset.sum_congr rfl fun r _ =>
      congrArg Ideal.exp (score_b i x0 x1 x2 x3 x4 x5 x6 x7 x8 x9 Wq Wk Wv Bq Bk Bv Zx Zb Zf M H l hc r r.isLt))))
    (lane_window _ _ l p (coord_lt i) l.isLt hc hp o)

/-- The masked scores against image `Zb` at a lane of a real column. -/
theorem out_b (p : Fin 25) :
    k0_pay156 (F := Ideal) i x0 x1 x2 x3 x4 x5 x6 x7 x8 x9 (ix2 p l)
      = scoreOf scale (conv Wq Bq Zx) (conv Wk Bk Zb) ((i 0).val * 16 + l / 256) (l % 256) p
        * bitOf (M ((i 0).val * 16 + l / 256) (l % 256)) := by
  rw [masked_b i x0 x1 x2 x3 x4 x5 x6 x7 x8 x9 (qlane (i 0).val Wq Bq Zx) (klane (i 0).val Wk Bk Zb) (fun c l => q_at i x0 x1 x2 x3 x4 x5 x6 x7 x8 x9 Wq Bq (fun c j => flat Zx c ((i 0).val * 4096 + j + 128)) H.wq H.bq H.x c l)
      (fun c j => key_b i x0 x1 x2 x3 x4 x5 x6 x7 x8 x9 Wq Wk Wv Bq Bk Bv Zx Zb Zf M H c j) p l,
    mask_lane i x0 x1 x2 x3 x4 x5 x6 x7 x8 x9 Wq Wk Wv Bq Bk Bv Zx Zb Zf M H l hc]
  exact congrArg (· * _) (score_b i x0 x1 x2 x3 x4 x5 x6 x7 x8 x9 Wq Wk Wv Bq Bk Bv Zx Zb Zf M H l hc p p.isLt)

/-- The scores against image `Zf` at a lane of a real column are those of its pixel. -/
theorem score_f (p : ℕ) (hp : p < 25) :
    score (qlane (i 0).val Wq Bq Zx) (klane (i 0).val Wk Bk Zf) p l
      = scoreOf scale (conv Wq Bq Zx) (conv Wk Bk Zf) ((i 0).val * 16 + l / 256) (l % 256) p := by
  unfold score scoreOf
  exact Finset.sum_congr rfl fun c _ => congrArg₂ (· * ·)
    (congrArg (· * scale) (lane_conv Wq Bq Zx _ l (coord_lt i) l.isLt hc c))
    (lane_window _ _ l p (coord_lt i) l.isLt hc hp c)

/-- The gathered image `Zf` at a lane of a real column is that of its pixel. -/
theorem gather_f (o : Fin 96) :
    gathered (qlane (i 0).val Wq Bq Zx) (klane (i 0).val Wk Bk Zf) o l
      = gatherOf scale (conv Wq Bq Zx) (conv Wk Bk Zf) o ((i 0).val * 16 + l / 256) (l % 256) := by
  unfold gathered gatherOf weight weightOf
  refine Finset.sum_congr rfl fun p hp => ?_
  have hp := Finset.mem_range.1 hp
  exact congrArg₂ (· * ·) (congrArg₂ (· * ·)
    (congrArg Ideal.exp (score_f i x0 x1 x2 x3 x4 x5 x6 x7 x8 x9 Wq Wk Wv Bq Bk Bv Zx Zb Zf M H l hc p hp))
    (congrArg (Ideal.div 1) (Finset.sum_congr rfl fun r _ =>
      congrArg Ideal.exp (score_f i x0 x1 x2 x3 x4 x5 x6 x7 x8 x9 Wq Wk Wv Bq Bk Bv Zx Zb Zf M H l hc r r.isLt))))
    (lane_window _ _ l p (coord_lt i) l.isLt hc hp o)

/-- The masked scores against image `Zf` at a lane of a real column. -/
theorem out_f (p : Fin 25) :
    k0_pay189 (F := Ideal) i x0 x1 x2 x3 x4 x5 x6 x7 x8 x9 (ix2 p l)
      = scoreOf scale (conv Wq Bq Zx) (conv Wk Bk Zf) ((i 0).val * 16 + l / 256) (l % 256) p
        * bitOf (M ((i 0).val * 16 + l / 256) (l % 256)) := by
  rw [masked_f i x0 x1 x2 x3 x4 x5 x6 x7 x8 x9 (qlane (i 0).val Wq Bq Zx) (klane (i 0).val Wk Bk Zf) (fun c l => q_at i x0 x1 x2 x3 x4 x5 x6 x7 x8 x9 Wq Bq (fun c j => flat Zx c ((i 0).val * 4096 + j + 128)) H.wq H.bq H.x c l)
      (fun c j => key_f i x0 x1 x2 x3 x4 x5 x6 x7 x8 x9 Wq Wk Wv Bq Bk Bv Zx Zb Zf M H c j) p l,
    mask_lane i x0 x1 x2 x3 x4 x5 x6 x7 x8 x9 Wq Wk Wv Bq Bk Bv Zx Zb Zf M H l hc]
  exact congrArg (· * _) (score_f i x0 x1 x2 x3 x4 x5 x6 x7 x8 x9 Wq Wk Wv Bq Bk Bv Zx Zb Zf M H l hc p p.isLt)

/-- The first result at a lane of a real column. -/
theorem out_total (o : Fin 96) :
    k0_pay190 (F := Ideal) i x0 x1 x2 x3 x4 x5 x6 x7 x8 x9 (ix2 o l)
      = (conv Wv Bv Zx o ((i 0).val * 16 + l / 256) (l % 256)
          + gatherOf scale (conv Wq Bq Zx) (conv Wk Bk Zb) o ((i 0).val * 16 + l / 256) (l % 256)
            * bitOf (M ((i 0).val * 16 + l / 256) (l % 256)))
        + gatherOf scale (conv Wq Bq Zx) (conv Wk Bk Zf) o ((i 0).val * 16 + l / 256) (l % 256)
          * bitOf (M ((i 0).val * 16 + l / 256) (l % 256)) := by
  rw [total_at i x0 x1 x2 x3 x4 x5 x6 x7 x8 x9 (qlane (i 0).val Wq Bq Zx) (klane (i 0).val Wk Bk Zf) (fun c l => q_at i x0 x1 x2 x3 x4 x5 x6 x7 x8 x9 Wq Bq (fun c j => flat Zx c ((i 0).val * 4096 + j + 128)) H.wq H.bq H.x c l)
      (fun c j => key_f i x0 x1 x2 x3 x4 x5 x6 x7 x8 x9 Wq Wk Wv Bq Bk Bv Zx Zb Zf M H c j) o l,
    gathered_b i x0 x1 x2 x3 x4 x5 x6 x7 x8 x9 (qlane (i 0).val Wq Bq Zx) (klane (i 0).val Wk Bk Zb) (fun c l => q_at i x0 x1 x2 x3 x4 x5 x6 x7 x8 x9 Wq Bq (fun c j => flat Zx c ((i 0).val * 4096 + j + 128)) H.wq H.bq H.x c l)
      (fun c j => key_b i x0 x1 x2 x3 x4 x5 x6 x7 x8 x9 Wq Wk Wv Bq Bk Bv Zx Zb Zf M H c j) o l,
    mask_lane i x0 x1 x2 x3 x4 x5 x6 x7 x8 x9 Wq Wk Wv Bq Bk Bv Zx Zb Zf M H l hc, value_lane i x0 x1 x2 x3 x4 x5 x6 x7 x8 x9 Wq Wk Wv Bq Bk Bv Zx Zb Zf M H l hc o]
  exact congrArg₂ (· + ·)
    (congrArg (_ + · * _) (gather_b i x0 x1 x2 x3 x4 x5 x6 x7 x8 x9 Wq Wk Wv Bq Bk Bv Zx Zb Zf M H l hc o))
    (congrArg (· * _) (gather_f i x0 x1 x2 x3 x4 x5 x6 x7 x8 x9 Wq Wk Wv Bq Bk Bv Zx Zb Zf M H l hc o))

end Cert.KernelIdeal.Value

end
-- ==== Proof.KEntry.lean ====
/-
  The operands of the kernel as the host leaves them, and what each staged block holds of them.
-/
module

public import proofs.«01_k».proof.Proof.Inputs
public import proofs.«01_k».proof.Proof.KPoint
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- Where each window reads and writes, at every grid point. -/
theorem idx : ∀ t : Fin cfg0.N, win0_0.index t = ![0, t.val * 4096] ∧ win0_1.index t = ![0, t.val * 4096]
    ∧ win0_2.index t = ![0, t.val * 4096] ∧ win0_3.index t = ![0, t.val]
    ∧ win0_4.index t = ![0, 0, 0] ∧ win0_5.index t = ![0, 0] ∧ win0_6.index t = ![0, 0, 0] ∧ win0_7.index t = ![0, 0]
    ∧ win0_8.index t = ![0, 0, 0] ∧ win0_9.index t = ![0, 0]
    ∧ win0_10.index t = ![0, t.val] ∧ win0_11.index t = ![0, t.val] ∧ win0_12.index t = ![0, t.val]
    ∧ (grid0.coords t 0).val = t.val :=
  (by decide +kernel : ∀ t : Fin grid0.N, _)

/-- An image as the host packs it: its rows padded to 256 lanes, laid end to end, with a margin on both sides. -/
def packed (X : FVec Ideal S1x96x224x224 .f32) : FVec Ideal S96x59136 .bf16 :=
  truncf .bf16 (pad S96x59136 ![0, 896] ![0, 896] ![0, 0]
    (shapeCast S96x57344 (pad S96x224x256 ![0, 0, 0] ![0, 0, 32] ![0, 0, 0]
      (shapeCast S96x224x224 X shapeCasts_S1x96x224x224_S96x224x224) (sitofp .f32 (constantI S_ 32 0#32))
      pads_S96x224x224_S96x224x256_000_000_0320 h_S_) shapeCasts_S96x224x256_S96x57344)
    (sitofp .f32 (constantI S_ 32 0#32)) pads_S96x57344_S96x59136_000_8968960 h_S_) bitsLt_bf16_f32

/-- The mask as the host packs it. -/
def packedMask (X : FVec Ideal S1x1x224x224 .f32) : FVec Ideal S1x57344 .f32 :=
  shapeCast S1x57344 (pad S1x224x256 ![0, 0, 0] ![0, 0, 32] ![0, 0, 0]
    (shapeCast S1x224x224 X shapeCasts_S1x1x224x224_S1x224x224) (sitofp .f32 (constantI S_ 32 0#32))
    pads_S1x224x224_S1x224x256_000_000_0320 h_S_) shapeCasts_S1x224x256_S1x57344

/-- A filter bank as the host packs it. -/
def packedTaps (W : FVec Ideal S96x96x3x3 .f32) : FVec Ideal S9x96x96 .bf16 :=
  truncf .bf16 (shapeCast S9x96x96 (transpose S3x3x96x96 [2, 3, 0, 1] W transposes_S96x96x3x3_S3x3x96x96_2_3_0_1)
    shapeCasts_S3x3x96x96_S9x96x96) bitsLt_bf16_f32

theorem entry_v4 (d : Dev nD) : V m d main_v4 = packed (m ((d : Thread nD τ).loc main_arg0)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append]
  after_results
  rfl

theorem entry_v9 (d : Dev nD) : V m d main_v9 = packed (m ((d : Thread nD τ).loc main_arg1)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append]
  after_results
  rfl

theorem entry_v14 (d : Dev nD) : V m d main_v14 = packed (m ((d : Thread nD τ).loc main_arg2)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append]
  after_results
  rfl

theorem entry_v17 (d : Dev nD) : V m d main_v17 = packedMask (m ((d : Thread nD τ).loc main_arg3)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append]
  after_results
  rfl

theorem entry_v20 (d : Dev nD) : V m d main_v20 = packedTaps (m ((d : Thread nD τ).loc main_arg4)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append]
  after_results
  rfl

theorem entry_v24 (d : Dev nD) : V m d main_v24 = packedTaps (m ((d : Thread nD τ).loc main_arg6)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append]
  after_results
  rfl

theorem entry_v28 (d : Dev nD) : V m d main_v28 = packedTaps (m ((d : Thread nD τ).loc main_arg8)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append]
  after_results
  rfl

theorem entry_v21 (d : Dev nD) : V m d main_v21
    = shapeCast S96x1 (m ((d : Thread nD τ).loc main_arg5)) shapeCasts_S96_S96x1 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append]
  after_results
  rfl

theorem entry_v25 (d : Dev nD) : V m d main_v25
    = shapeCast S96x1 (m ((d : Thread nD τ).loc main_arg7)) shapeCasts_S96_S96x1 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append]
  after_results
  rfl

theorem entry_v29 (d : Dev nD) : V m d main_v29
    = shapeCast S96x1 (m ((d : Thread nD τ).loc main_arg9)) shapeCasts_S96_S96x1 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append]
  after_results
  rfl

/-- The word 0 read as a number is 0. -/
theorem fill_zero : (FloatOps.sitofp (F := Ideal) .f32 0#32 : EReal) = 0 := by
  show (((0#32 : BitVec 32).toInt : ℝ) : EReal) = 0
  simp

/-- The flat layout at a lane of a pixel. -/
theorem flat_in (Y : Img) (c : Fin 96) (g : ℕ) (h0 : 1024 ≤ g) (h1 : g < 58368) (h2 : g % 256 < 224) :
    flat Y c g = Y c ((g - 1024) / 256) (g % 256) := if_pos ⟨h0, h1, h2⟩

/-- The flat layout at a lane of no pixel. -/
theorem flat_out (Y : Img) (c : Fin 96) (g : ℕ) (h : ¬(1024 ≤ g ∧ g < 58368 ∧ g % 256 < 224)) : flat Y c g = 0 := if_neg h

/-- An image inside. -/
theorem img_in (F : Fin 96 → Fin 224 → Fin 224 → EReal) (c : Fin 96) (a b : ℕ) (h : a < 224 ∧ b < 224) :
    img F c a b = F c ⟨a, h.1⟩ ⟨b, h.2⟩ := dif_pos h

/-- Two nested padded reads are the flat layout. -/
theorem flat_img (F : Fin 96 → Fin 224 → Fin 224 → EReal) (c : Fin 96) (g : ℕ) :
    (if h : 896 ≤ g ∧ g - 896 < 57344 then
      if h' : (g - 896) / 256 < 224 ∧ (g - 896) % 256 < 224 then F c ⟨(g - 896) / 256, h'.1⟩ ⟨(g - 896) % 256, h'.2⟩ else 0
      else 0) = flat (img F) c (g + 128) := by
  by_cases h : 896 ≤ g ∧ g - 896 < 57344
  · rw [dif_pos h]
    by_cases h' : (g - 896) / 256 < 224 ∧ (g - 896) % 256 < 224
    · have e1 : (g + 128 - 1024) / 256 = (g - 896) / 256 := by omega
      have e2 : (g + 128) % 256 = (g - 896) % 256 := by omega
      rw [dif_pos h', flat_in (img F) c (g + 128) (by omega) (by omega) (by omega), e1, e2, img_in F c _ _ h']
    · rw [dif_neg h', flat_out (img F) c (g + 128) (by omega)]
  · rw [dif_neg h, flat_out (img F) c (g + 128) (by omega)]

set_option maxHeartbeats 1000000 in
/-- A packed image at a lane is the image in the flat layout. -/
theorem packed_at (X : FVec Ideal S1x96x224x224 .f32) (c : Fin 96) (g : Fin 59136) :
    packed X (ix2 c g) = flat (img fun c a b => X (ix4 (0 : Fin 1) c a b)) c (g + 128) := by
  rw [← flat_img]
  pointwise [packed]
  rw [fill_zero]

/-- The packed mask at a lane of a real column. -/
theorem packedMask_at (X : FVec Ideal S1x1x224x224 .f32) (g : Fin 57344) (hg : (g : ℕ) % 256 < 224) :
    packedMask X (ix2 (0 : Fin 1) g) = msk (fun a b => X (ix4 (0 : Fin 1) (0 : Fin 1) a b)) (g / 256) (g % 256) := by
  pointwise [packedMask]
  have hb := g.isLt
  have h : (g : ℕ) / 256 < 224 ∧ (g : ℕ) % 256 < 224 := ⟨by omega, hg⟩
  unfold msk
  rw [dif_pos h, dif_pos h]

/-- A packed filter bank at a tap. -/
theorem packedTaps_at (W : FVec Ideal S96x96x3x3 .f32) (k : Fin 9) (o c : Fin 96) :
    packedTaps W (ix3 k o c) = taps (fun o c a b => W (ix4 o c a b)) k o c := by
  pointwise [packedTaps]
  have hk := k.isLt
  unfold taps
  rw [dif_pos (show (k : ℕ) / 3 < 3 by omega)]

/-- A bias as a column. -/
theorem packedBias_at (B : FVec Ideal S96 .f32) (o : Fin 96) :
    shapeCast S96x1 B shapeCasts_S96_S96x1 (ix2 o (0 : Fin 1)) = B (ix1 o) := by
  pointwise

/-- Window 0 of a grid point holds its stretch of the packed image. -/
theorem blk_0 (d : Dev nD) (t : Fin cfg0.N) (c : Fin 96) (j : Fin 5888) :
    iblk m d 0 t (ix2 c j)
      = flat (img fun c a b => (m ((d : Thread nD τ).loc main_arg0) : FVec Ideal S1x96x224x224 .f32) (ix4 (0 : Fin 1) c a b)) c
        ((grid0.coords t 0).val * 4096 + j + 128) := by
  have hj := j.isLt
  obtain ⟨e0, e1, e2, e3, e4, e5, e6, e7, e8, e9, e10, e11, e12, ec⟩ := idx t
  have ht : t.val < 14 := ec ▸ (grid0.coords t 0).isLt
  rw [ec]
  refine Eq.trans ?_ (packed_at (m ((d : Thread nD τ).loc main_arg0)) c ⟨t.val * 4096 + j, by omega⟩)
  blk_simp [iblk, e0]
  rw [entry_v4]
  refine congrArg (packed (m ((d : Thread nD τ).loc main_arg0))) (funext fun a => Fin.ext ?_)
  refine (Pipeline.Window.rect_emb_val_off win0_0 t (ix2 c j) a).trans ?_
  rw [e0]
  match a with
  | ⟨0, _⟩ => exact Nat.zero_add _
  | ⟨1, _⟩ => rfl

/-- Window 1 of a grid point holds its stretch of the packed image. -/
theorem blk_1 (d : Dev nD) (t : Fin cfg0.N) (c : Fin 96) (j : Fin 5888) :
    iblk m d 1 t (ix2 c j)
      = flat (img fun c a b => (m ((d : Thread nD τ).loc main_arg1) : FVec Ideal S1x96x224x224 .f32) (ix4 (0 : Fin 1) c a b)) c
        ((grid0.coords t 0).val * 4096 + j + 128) := by
  have hj := j.isLt
  obtain ⟨e0, e1, e2, e3, e4, e5, e6, e7, e8, e9, e10, e11, e12, ec⟩ := idx t
  have ht : t.val < 14 := ec ▸ (grid0.coords t 0).isLt
  rw [ec]
  refine Eq.trans ?_ (packed_at (m ((d : Thread nD τ).loc main_arg1)) c ⟨t.val * 4096 + j, by omega⟩)
  blk_simp [iblk, e1]
  rw [entry_v9]
  refine congrArg (packed (m ((d : Thread nD τ).loc main_arg1))) (funext fun a => Fin.ext ?_)
  refine (Pipeline.Window.rect_emb_val_off win0_1 t (ix2 c j) a).trans ?_
  rw [e1]
  match a with
  | ⟨0, _⟩ => exact Nat.zero_add _
  | ⟨1, _⟩ => rfl

/-- Window 2 of a grid point holds its stretch of the packed image. -/
theorem blk_2 (d : Dev nD) (t : Fin cfg0.N) (c : Fin 96) (j : Fin 5888) :
    iblk m d 2 t (ix2 c j)
      = flat (img fun c a b => (m ((d : Thread nD τ).loc main_arg2) : FVec Ideal S1x96x224x224 .f32) (ix4 (0 : Fin 1) c a b)) c
        ((grid0.coords t 0).val * 4096 + j + 128) := by
  have hj := j.isLt
  obtain ⟨e0, e1, e2, e3, e4, e5, e6, e7, e8, e9, e10, e11, e12, ec⟩ := idx t
  have ht : t.val < 14 := ec ▸ (grid0.coords t 0).isLt
  rw [ec]
  refine Eq.trans ?_ (packed_at (m ((d : Thread nD τ).loc main_arg2)) c ⟨t.val * 4096 + j, by omega⟩)
  blk_simp [iblk, e2]
  rw [entry_v14]
  refine congrArg (packed (m ((d : Thread nD τ).loc main_arg2))) (funext fun a => Fin.ext ?_)
  refine (Pipeline.Window.rect_emb_val_off win0_2 t (ix2 c j) a).trans ?_
  rw [e2]
  match a with
  | ⟨0, _⟩ => exact Nat.zero_add _
  | ⟨1, _⟩ => rfl

/-- Window 3 of a grid point holds its stretch of the packed mask. -/
theorem blk_3 (d : Dev nD) (t : Fin cfg0.N) (l : Fin 4096) (hl : (l : ℕ) % 256 < 224) :
    iblk m d 3 t (ix2 (0 : Fin 1) l)
      = msk (fun a b => (m ((d : Thread nD τ).loc main_arg3) : FVec Ideal S1x1x224x224 .f32) (ix4 (0 : Fin 1) (0 : Fin 1) a b))
        ((grid0.coords t 0).val * 16 + l / 256) (l % 256) := by
  have hj := l.isLt
  obtain ⟨e0, e1, e2, e3, e4, e5, e6, e7, e8, e9, e10, e11, e12, ec⟩ := idx t
  have ht : t.val < 14 := ec ▸ (grid0.coords t 0).isLt
  have h := packedMask_at (m ((d : Thread nD τ).loc main_arg3)) ⟨t.val * 4096 + l, by omega⟩ (by dsimp only; omega)
  dsimp only at h
  rw [show (t.val * 4096 + (l : ℕ)) / 256 = t.val * 16 + l / 256 by omega,
    show (t.val * 4096 + (l : ℕ)) % 256 = l % 256 by omega] at h
  rw [ec]
  refine Eq.trans ?_ h
  blk_simp [iblk, e3]
  rw [entry_v17]
  blk_ext [e3]

/-- Window 4 holds a packed filter bank. -/
theorem blk_4 (d : Dev nD) (t : Fin cfg0.N) (k : Fin 9) (o c : Fin 96) :
    iblk m d 4 t (ix3 k o c)
      = taps (fun o c a b => (m ((d : Thread nD τ).loc main_arg4) : FVec Ideal S96x96x3x3 .f32) (ix4 o c a b)) k o c := by
  obtain ⟨e0, e1, e2, e3, e4, e5, e6, e7, e8, e9, e10, e11, e12, ec⟩ := idx t
  refine Eq.trans ?_ (packedTaps_at (m ((d : Thread nD τ).loc main_arg4)) k o c)
  blk_simp [iblk, e4]
  rw [entry_v20]
  blk_ext [e4]

/-- Window 6 holds a packed filter bank. -/
theorem blk_6 (d : Dev nD) (t : Fin cfg0.N) (k : Fin 9) (o c : Fin 96) :
    iblk m d 6 t (ix3 k o c)
      = taps (fun o c a b => (m ((d : Thread nD τ).loc main_arg6) : FVec Ideal S96x96x3x3 .f32) (ix4 o c a b)) k o c := by
  obtain ⟨e0, e1, e2, e3, e4, e5, e6, e7, e8, e9, e10, e11, e12, ec⟩ := idx t
  refine Eq.trans ?_ (packedTaps_at (m ((d : Thread nD τ).loc main_arg6)) k o c)
  blk_simp [iblk, e6]
  rw [entry_v24]
  blk_ext [e6]

/-- Window 8 holds a packed filter bank. -/
theorem blk_8 (d : Dev nD) (t : Fin cfg0.N) (k : Fin 9) (o c : Fin 96) :
    iblk m d 8 t (ix3 k o c)
      = taps (fun o c a b => (m ((d : Thread nD τ).loc main_arg8) : FVec Ideal S96x96x3x3 .f32) (ix4 o c a b)) k o c := by
  obtain ⟨e0, e1, e2, e3, e4, e5, e6, e7, e8, e9, e10, e11, e12, ec⟩ := idx t
  refine Eq.trans ?_ (packedTaps_at (m ((d : Thread nD τ).loc main_arg8)) k o c)
  blk_simp [iblk, e8]
  rw [entry_v28]
  blk_ext [e8]

/-- Window 5 holds a bias. -/
theorem blk_5 (d : Dev nD) (t : Fin cfg0.N) (o : Fin 96) :
    iblk m d 5 t (ix2 o (0 : Fin 1)) = (m ((d : Thread nD τ).loc main_arg5) : FVec Ideal S96 .f32) (ix1 o) := by
  obtain ⟨e0, e1, e2, e3, e4, e5, e6, e7, e8, e9, e10, e11, e12, ec⟩ := idx t
  refine Eq.trans ?_ (packedBias_at (m ((d : Thread nD τ).loc main_arg5)) o)
  blk_simp [iblk, e5]
  rw [entry_v21]
  blk_ext [e5]

/-- Window 7 holds a bias. -/
theorem blk_7 (d : Dev nD) (t : Fin cfg0.N) (o : Fin 96) :
    iblk m d 7 t (ix2 o (0 : Fin 1)) = (m ((d : Thread nD τ).loc main_arg7) : FVec Ideal S96 .f32) (ix1 o) := by
  obtain ⟨e0, e1, e2, e3, e4, e5, e6, e7, e8, e9, e10, e11, e12, ec⟩ := idx t
  refine Eq.trans ?_ (packedBias_at (m ((d : Thread nD τ).loc main_arg7)) o)
  blk_simp [iblk, e7]
  rw [entry_v25]
  blk_ext [e7]

/-- Window 9 holds a bias. -/
theorem blk_9 (d : Dev nD) (t : Fin cfg0.N) (o : Fin 96) :
    iblk m d 9 t (ix2 o (0 : Fin 1)) = (m ((d : Thread nD τ).loc main_arg9) : FVec Ideal S96 .f32) (ix1 o) := by
  obtain ⟨e0, e1, e2, e3, e4, e5, e6, e7, e8, e9, e10, e11, e12, ec⟩ := idx t
  refine Eq.trans ?_ (packedBias_at (m ((d : Thread nD τ).loc main_arg9)) o)
  blk_simp [iblk, e9]
  rw [entry_v29]
  blk_ext [e9]

/-- The blocks of a grid point hold the weights, biases, images and mask of the arguments. -/
theorem holds (d : Dev nD) (t : Fin cfg0.N) :
    Holds (grid0.coords t) (iblk m d 0 t) (iblk m d 1 t) (iblk m d 2 t) (iblk m d 3 t) (iblk m d 4 t) (iblk m d 5 t) (iblk m d 6 t) (iblk m d 7 t) (iblk m d 8 t) (iblk m d 9 t)
      (taps fun o c a b => (m ((d : Thread nD τ).loc main_arg4) : FVec Ideal S96x96x3x3 .f32) (ix4 o c a b))
      (taps fun o c a b => (m ((d : Thread nD τ).loc main_arg6) : FVec Ideal S96x96x3x3 .f32) (ix4 o c a b))
      (taps fun o c a b => (m ((d : Thread nD τ).loc main_arg8) : FVec Ideal S96x96x3x3 .f32) (ix4 o c a b))
      (fun o => (m ((d : Thread nD τ).loc main_arg5) : FVec Ideal S96 .f32) (ix1 o)) (fun o => (m ((d : Thread nD τ).loc main_arg7) : FVec Ideal S96 .f32) (ix1 o))
      (fun o => (m ((d : Thread nD τ).loc main_arg9) : FVec Ideal S96 .f32) (ix1 o))
      (img fun c a b => (m ((d : Thread nD τ).loc main_arg0) : FVec Ideal S1x96x224x224 .f32) (ix4 (0 : Fin 1) c a b))
      (img fun c a b => (m ((d : Thread nD τ).loc main_arg1) : FVec Ideal S1x96x224x224 .f32) (ix4 (0 : Fin 1) c a b))
      (img fun c a b => (m ((d : Thread nD τ).loc main_arg2) : FVec Ideal S1x96x224x224 .f32) (ix4 (0 : Fin 1) c a b))
      (msk fun a b => (m ((d : Thread nD τ).loc main_arg3) : FVec Ideal S1x1x224x224 .f32) (ix4 (0 : Fin 1) (0 : Fin 1) a b)) where
  x := blk_0 m d t
  b := blk_1 m d t
  f := blk_2 m d t
  mask := blk_3 m d t
  wq := blk_4 m d t
  bq := blk_5 m d t
  wk := blk_6 m d t
  bk := blk_7 m d t
  wv := blk_8 m d t
  bv := blk_9 m d t

end Cert.KernelIdeal.Value

end
-- ==== Proof.KTiles.lean ====
/-
  Each output block is written as 16 pieces, one per image row: together they are the lanes of the real columns of one value.
-/
module

public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (i : grid0.Coords) (x0 x1 x2 : FVec Ideal S96x5888 .bf16) (x3 : FVec Ideal S1x4096 .f32)
  (x4 : FVec Ideal S9x96x96 .bf16) (x5 : FVec Ideal S96x1 .f32) (x6 : FVec Ideal S9x96x96 .bf16)
  (x7 : FVec Ideal S96x1 .f32) (x8 : FVec Ideal S9x96x96 .bf16) (x9 : FVec Ideal S96x1 .f32)

/-- Output block 10, column `y 1`: the lane of that column. -/
theorem tiles_10 (y : S96x3584.Idx) :
    out0_10 (F := Ideal) i x0 x1 x2 x3 x4 x5 x6 x7 x8 x9 y = k0_pay190 (F := Ideal) i x0 x1 x2 x3 x4 x5 x6 x7 x8 x9
      (ix2 (⟨(y 0).val, (y 0).isLt⟩ : Fin 96) (⟨(y 1).val / 224 * 256 + (y 1).val % 224, by have := (y 1).isLt; change (y 1).val < 3584 at this; omega⟩ : Fin 4096)) := by
  obtain_idx q : S96x4096 := [(y 0 : ℕ), (y 1 : ℕ) / 224 * 256 + (y 1 : ℕ) % 224] with hq
  refine Eq.trans (b := k0_pay190 (F := Ideal) i x0 x1 x2 x3 x4 x5 x6 x7 x8 x9 q) ?_ ?_
  · unfold k0_pay190
    unfold out0_10
    unfold k0_pay190
    canon_tiles x h
    all_goals (open_payloads; pointwise; blk_ext)
  · congr 1; blk_ext

/-- Output block 11, column `y 1`: the lane of that column. -/
theorem tiles_11 (y : S25x3584.Idx) :
    out0_11 (F := Ideal) i x0 x1 x2 x3 x4 x5 x6 x7 x8 x9 y = k0_pay156 (F := Ideal) i x0 x1 x2 x3 x4 x5 x6 x7 x8 x9
      (ix2 (⟨(y 0).val, (y 0).isLt⟩ : Fin 25) (⟨(y 1).val / 224 * 256 + (y 1).val % 224, by have := (y 1).isLt; change (y 1).val < 3584 at this; omega⟩ : Fin 4096)) := by
  obtain_idx q : S25x4096 := [(y 0 : ℕ), (y 1 : ℕ) / 224 * 256 + (y 1 : ℕ) % 224] with hq
  refine Eq.trans (b := k0_pay156 (F := Ideal) i x0 x1 x2 x3 x4 x5 x6 x7 x8 x9 q) ?_ ?_
  · skip
    unfold out0_11
    skip
    canon_tiles x h
    all_goals (open_payloads; pointwise; blk_ext)
  · congr 1; blk_ext

/-- Output block 12, column `y 1`: the lane of that column. -/
theorem tiles_12 (y : S25x3584.Idx) :
    out0_12 (F := Ideal) i x0 x1 x2 x3 x4 x5 x6 x7 x8 x9 y = k0_pay189 (F := Ideal) i x0 x1 x2 x3 x4 x5 x6 x7 x8 x9
      (ix2 (⟨(y 0).val, (y 0).isLt⟩ : Fin 25) (⟨(y 1).val / 224 * 256 + (y 1).val % 224, by have := (y 1).isLt; change (y 1).val < 3584 at this; omega⟩ : Fin 4096)) := by
  obtain_idx q : S25x4096 := [(y 0 : ℕ), (y 1 : ℕ) / 224 * 256 + (y 1 : ℕ) % 224] with hq
  refine Eq.trans (b := k0_pay189 (F := Ideal) i x0 x1 x2 x3 x4 x5 x6 x7 x8 x9 q) ?_ ?_
  · unfold k0_pay189
    unfold out0_12
    unfold k0_pay189
    canon_tiles x h
    all_goals (open_payloads; pointwise; blk_ext)
  · congr 1; blk_ext

end Cert.KernelIdeal.Value

end
-- ==== Proof.KBridge.lean ====
/-
  What the three result arrays of the kernel hold after the run: every pixel's attention.
-/
module

public import proofs.«01_k».proof.Proof.KEntry
public import proofs.«01_k».proof.Proof.KTiles
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- The mask. -/
def maskA (d : Dev nD) : ℕ → ℕ → EReal :=
  msk fun a b => (m ((d : Thread nD τ).loc main_arg3) : FVec Ideal S1x1x224x224 .f32) (ix4 (0 : Fin 1) (0 : Fin 1) a b)

/-- The query image. -/
def queryA (d : Dev nD) : Img :=
  conv (taps fun o c a b => (m ((d : Thread nD τ).loc main_arg4) : FVec Ideal S96x96x3x3 .f32) (ix4 o c a b))
    (fun o => (m ((d : Thread nD τ).loc main_arg5) : FVec Ideal S96 .f32) (ix1 o))
    (img fun c a b => (m ((d : Thread nD τ).loc main_arg0) : FVec Ideal S1x96x224x224 .f32) (ix4 (0 : Fin 1) c a b))

/-- The key image of the second argument. -/
def keyB (d : Dev nD) : Img :=
  conv (taps fun o c a b => (m ((d : Thread nD τ).loc main_arg6) : FVec Ideal S96x96x3x3 .f32) (ix4 o c a b))
    (fun o => (m ((d : Thread nD τ).loc main_arg7) : FVec Ideal S96 .f32) (ix1 o))
    (img fun c a b => (m ((d : Thread nD τ).loc main_arg1) : FVec Ideal S1x96x224x224 .f32) (ix4 (0 : Fin 1) c a b))

/-- The key image of the third argument. -/
def keyF (d : Dev nD) : Img :=
  conv (taps fun o c a b => (m ((d : Thread nD τ).loc main_arg6) : FVec Ideal S96x96x3x3 .f32) (ix4 o c a b))
    (fun o => (m ((d : Thread nD τ).loc main_arg7) : FVec Ideal S96 .f32) (ix1 o))
    (img fun c a b => (m ((d : Thread nD τ).loc main_arg2) : FVec Ideal S1x96x224x224 .f32) (ix4 (0 : Fin 1) c a b))

/-- The value image. -/
def valueA (d : Dev nD) : Img :=
  conv (taps fun o c a b => (m ((d : Thread nD τ).loc main_arg8) : FVec Ideal S96x96x3x3 .f32) (ix4 o c a b))
    (fun o => (m ((d : Thread nD τ).loc main_arg9) : FVec Ideal S96 .f32) (ix1 o))
    (img fun c a b => (m ((d : Thread nD τ).loc main_arg0) : FVec Ideal S1x96x224x224 .f32) (ix4 (0 : Fin 1) c a b))

/-- The array of output window 10: at row `j 0`, the pixel numbered `j 1`. -/
def array_10 (d : Dev nD) : FVec Ideal S96x50176 .f32 := fun j =>
  pixelOf scale (valueA m d) (queryA m d) (keyB m d) (keyF m d) (maskA m d) ⟨(j 0).val, (j 0).isLt⟩ ((j 1).val / 224) ((j 1).val % 224)

/-- Grid point `t`, column `y 1` of output block 10. -/
theorem point_10 (d : Dev nD) (t : Fin cfg0.N) (y : S96x3584.Idx) (j : S96x50176.Idx) (h0 : (j 0).val = (y 0).val)
    (h1 : (j 1).val = t.val * 3584 + (y 1).val) :
    out0_10 (F := Ideal) (grid0.coords t) (iblk m d 0 t) (iblk m d 1 t) (iblk m d 2 t) (iblk m d 3 t) (iblk m d 4 t) (iblk m d 5 t) (iblk m d 6 t) (iblk m d 7 t) (iblk m d 8 t) (iblk m d 9 t) y = array_10 m d j := by
  have hy : (y 1).val < 3584 := (y 1).isLt
  have ec : (grid0.coords t 0).val = t.val := by
    obtain ⟨e0, e1, e2, e3, e4, e5, e6, e7, e8, e9, e10, e11, e12, ec⟩ := idx t; exact ec
  have hl : ((y 1).val / 224 * 256 + (y 1).val % 224) % 256 < 224 := by omega
  rw [tiles_10]
  refine (out_total (grid0.coords t) (iblk m d 0 t) (iblk m d 1 t) (iblk m d 2 t) (iblk m d 3 t) (iblk m d 4 t) (iblk m d 5 t) (iblk m d 6 t) (iblk m d 7 t) (iblk m d 8 t) (iblk m d 9 t) _ _ _ _ _ _ _ _ _ _ (holds m d t) ⟨(y 1).val / 224 * 256 + (y 1).val % 224, by omega⟩ hl ⟨(y 0).val, (y 0).isLt⟩).trans ?_
  unfold array_10
  dsimp only
  have er : (grid0.coords t 0).val * 16 + ((y 1).val / 224 * 256 + (y 1).val % 224) / 256 = (j 1).val / 224 := by
    rw [ec, h1]; omega
  have ew : ((y 1).val / 224 * 256 + (y 1).val % 224) % 256 = (j 1).val % 224 := by
    rw [h1]; omega
  rw [er, ew]
  have e0 : (⟨(j 0).val, (j 0).isLt⟩ : Fin 96) = ⟨(y 0).val, (y 0).isLt⟩ := Fin.ext h0
  rw [e0]; rfl

/-- The array of output window 10 after the run. -/
theorem final_10 (d : Dev nD) : (dats m 0 d).arrAt 10 (cfgs 0).N = array_10 m d := by
  refine (dats m 0 d).arrAt_eq_of_covers 10 _ (by decide +kernel) fun t _ y => ?_
  obtain ⟨e0, e1, e2, e3, e4, e5, e6, e7, e8, e9, e10, e11, e12, ec⟩ := idx t
  blk_simp
  rw [after0_10]
  refine point_10 m d t y _ ?_ ?_
  · blk_simp [e10]
  · blk_simp [e10]

/-- The array of output window 11: at row `j 0`, the pixel numbered `j 1`. -/
def array_11 (d : Dev nD) : FVec Ideal S25x50176 .f32 := fun j =>
  logitOf scale (queryA m d) (keyB m d) (maskA m d) (j 0).val ((j 1).val / 224) ((j 1).val % 224)

/-- Grid point `t`, column `y 1` of output block 11. -/
theorem point_11 (d : Dev nD) (t : Fin cfg0.N) (y : S25x3584.Idx) (j : S25x50176.Idx) (h0 : (j 0).val = (y 0).val)
    (h1 : (j 1).val = t.val * 3584 + (y 1).val) :
    out0_11 (F := Ideal) (grid0.coords t) (iblk m d 0 t) (iblk m d 1 t) (iblk m d 2 t) (iblk m d 3 t) (iblk m d 4 t) (iblk m d 5 t) (iblk m d 6 t) (iblk m d 7 t) (iblk m d 8 t) (iblk m d 9 t) y = array_11 m d j := by
  have hy : (y 1).val < 3584 := (y 1).isLt
  have ec : (grid0.coords t 0).val = t.val := by
    obtain ⟨e0, e1, e2, e3, e4, e5, e6, e7, e8, e9, e10, e11, e12, ec⟩ := idx t; exact ec
  have hl : ((y 1).val / 224 * 256 + (y 1).val % 224) % 256 < 224 := by omega
  rw [tiles_11]
  refine (out_b (grid0.coords t) (iblk m d 0 t) (iblk m d 1 t) (iblk m d 2 t) (iblk m d 3 t) (iblk m d 4 t) (iblk m d 5 t) (iblk m d 6 t) (iblk m d 7 t) (iblk m d 8 t) (iblk m d 9 t) _ _ _ _ _ _ _ _ _ _ (holds m d t) ⟨(y 1).val / 224 * 256 + (y 1).val % 224, by omega⟩ hl ⟨(y 0).val, (y 0).isLt⟩).trans ?_
  unfold array_11
  dsimp only
  have er : (grid0.coords t 0).val * 16 + ((y 1).val / 224 * 256 + (y 1).val % 224) / 256 = (j 1).val / 224 := by
    rw [ec, h1]; omega
  have ew : ((y 1).val / 224 * 256 + (y 1).val % 224) % 256 = (j 1).val % 224 := by
    rw [h1]; omega
  rw [er, ew]
  have e0 : (⟨(j 0).val, (j 0).isLt⟩ : Fin 25) = ⟨(y 0).val, (y 0).isLt⟩ := Fin.ext h0
  rw [h0]; rfl

/-- The array of output window 11 after the run. -/
theorem final_11 (d : Dev nD) : (dats m 0 d).arrAt 11 (cfgs 0).N = array_11 m d := by
  refine (dats m 0 d).arrAt_eq_of_covers 11 _ (by decide +kernel) fun t _ y => ?_
  obtain ⟨e0, e1, e2, e3, e4, e5, e6, e7, e8, e9, e10, e11, e12, ec⟩ := idx t
  blk_simp
  rw [after0_11]
  refine point_11 m d t y _ ?_ ?_
  · blk_simp [e11]
  · blk_simp [e11]

/-- The array of output window 12: at row `j 0`, the pixel numbered `j 1`. -/
def array_12 (d : Dev nD) : FVec Ideal S25x50176 .f32 := fun j =>
  logitOf scale (queryA m d) (keyF m d) (maskA m d) (j 0).val ((j 1).val / 224) ((j 1).val % 224)

/-- Grid point `t`, column `y 1` of output block 12. -/
theorem point_12 (d : Dev nD) (t : Fin cfg0.N) (y : S25x3584.Idx) (j : S25x50176.Idx) (h0 : (j 0).val = (y 0).val)
    (h1 : (j 1).val = t.val * 3584 + (y 1).val) :
    out0_12 (F := Ideal) (grid0.coords t) (iblk m d 0 t) (iblk m d 1 t) (iblk m d 2 t) (iblk m d 3 t) (iblk m d 4 t) (iblk m d 5 t) (iblk m d 6 t) (iblk m d 7 t) (iblk m d 8 t) (iblk m d 9 t) y = array_12 m d j := by
  have hy : (y 1).val < 3584 := (y 1).isLt
  have ec : (grid0.coords t 0).val = t.val := by
    obtain ⟨e0, e1, e2, e3, e4, e5, e6, e7, e8, e9, e10, e11, e12, ec⟩ := idx t; exact ec
  have hl : ((y 1).val / 224 * 256 + (y 1).val % 224) % 256 < 224 := by omega
  rw [tiles_12]
  refine (out_f (grid0.coords t) (iblk m d 0 t) (iblk m d 1 t) (iblk m d 2 t) (iblk m d 3 t) (iblk m d 4 t) (iblk m d 5 t) (iblk m d 6 t) (iblk m d 7 t) (iblk m d 8 t) (iblk m d 9 t) _ _ _ _ _ _ _ _ _ _ (holds m d t) ⟨(y 1).val / 224 * 256 + (y 1).val % 224, by omega⟩ hl ⟨(y 0).val, (y 0).isLt⟩).trans ?_
  unfold array_12
  dsimp only
  have er : (grid0.coords t 0).val * 16 + ((y 1).val / 224 * 256 + (y 1).val % 224) / 256 = (j 1).val / 224 := by
    rw [ec, h1]; omega
  have ew : ((y 1).val / 224 * 256 + (y 1).val % 224) % 256 = (j 1).val % 224 := by
    rw [h1]; omega
  rw [er, ew]
  have e0 : (⟨(j 0).val, (j 0).isLt⟩ : Fin 25) = ⟨(y 0).val, (y 0).isLt⟩ := Fin.ext h0
  rw [h0]; rfl

/-- The array of output window 12 after the run. -/
theorem final_12 (d : Dev nD) : (dats m 0 d).arrAt 12 (cfgs 0).N = array_12 m d := by
  refine (dats m 0 d).arrAt_eq_of_covers 12 _ (by decide +kernel) fun t _ y => ?_
  obtain ⟨e0, e1, e2, e3, e4, e5, e6, e7, e8, e9, e10, e11, e12, ec⟩ := idx t
  blk_simp
  rw [after0_12]
  refine point_12 m d t y _ ?_ ?_
  · blk_simp [e12]
  · blk_simp [e12]

end Cert.KernelIdeal.Value

end
-- ==== Proof.KResult.lean ====
/-
  The kernel's run: its four results as functions of the arrays the tiles fill.
-/
module

public import proofs.«01_k».proof.Proof.KBridge
public import Idealize.ShloMosaic.Lib.Claim

@[expose] public section

set_option maxRecDepth 16384

noncomputable section

open Idealize.ShloMosaic Idealize.ShloMosaic.TcCoe Idealize.SL.Sem Idealize.ShloMosaic.StableHlo

namespace Cert.KernelIdeal.Value

open Cert.KernelIdeal Cert.KernelIdeal.Gen Cert.Attn

/-! The six operations after the region, from any contents. -/

section
variable (U : Valuation τ sig (Elt Ideal))

/-- The first result is the first array, reshaped. -/
theorem last_31 : StableHlo.after hostOps1 U (Proc.devRef .tc main_v31) =
    shapeCast S1x96x224x224 (U (Proc.devRef .tc main_v30_0) : FVec Ideal S96x50176 .f32) shapeCasts_S96x50176_S1x96x224x224 := by
  after_results; try rfl

/-- The second result is the second array under a unit axis. -/
theorem last_32 : StableHlo.after hostOps1 U (Proc.devRef .tc main_v32) =
    broadcastInDim S1x25x50176 ![1, 2] bcast_S25x50176_S1x25x50176_1_2 (U (Proc.devRef .tc main_v30_1) : FVec Ideal S25x50176 .f32) := by
  after_results; try rfl

/-- The third result is the third array under a unit axis. -/
theorem last_33 : StableHlo.after hostOps1 U (Proc.devRef .tc main_v33) =
    broadcastInDim S1x25x50176 ![1, 2] bcast_S25x50176_S1x25x50176_1_2 (U (Proc.devRef .tc main_v30_2) : FVec Ideal S25x50176 .f32) := by
  after_results; try rfl

/-- The fourth result says where the mask is not nought. -/
theorem last_35 : StableHlo.after hostOps1 U (Proc.devRef .tc main_v35) =
    cmpf (F := Ideal) .une (U (Proc.devRef .tc main_arg3) : FVec Ideal S1x1x224x224 .f32)
      (broadcastInDim S1x1x224x224 ![] bcast_S_S1x1x224x224 (constant S_ .f32 0x00000000#32)) := by
  after_results; try rfl

end

variable (m : (ℓ : Loc nD τ sig) → Buf (Elt Ideal) ℓ) (d : Dev nD)

/-- The contents after the region. -/
abbrev mid : Valuation τ sig (Elt Ideal) :=
  Pipeline.withArrays (cfgs 0).spec d (V0 m d) fun w => (dats m 0 d).arrAt w (cfgs 0).N

theorem mid_10 : mid m d (Proc.devRef .tc main_v30_0) = array_10 m d :=
  (Pipeline.withArrays_arr (cfgs 0).spec launch0.win.arr_inj d (V0 m d) _ 10).trans (final_10 m d)

theorem mid_11 : mid m d (Proc.devRef .tc main_v30_1) = array_11 m d :=
  (Pipeline.withArrays_arr (cfgs 0).spec launch0.win.arr_inj d (V0 m d) _ 11).trans (final_11 m d)

theorem mid_12 : mid m d (Proc.devRef .tc main_v30_2) = array_12 m d :=
  (Pipeline.withArrays_arr (cfgs 0).spec launch0.win.arr_inj d (V0 m d) _ 12).trans (final_12 m d)

theorem mid_arg3 : mid m d (Proc.devRef .tc main_arg3) = m ((d.tc : Thread nD τ).loc main_arg3) := by
  refine (Pipeline.withArrays_of_ne _ d (V0 m d) _ main_arg3 (by exact (by decide : ∀ w, Pipeline.arrRef spec0 w ≠ main_arg3))).trans ?_
  exact V_main_arg3 m d

/-- The kernel's first result. -/
def result_0 : FVec Ideal S1x96x224x224 .f32 := shapeCast S1x96x224x224 (array_10 m d) shapeCasts_S96x50176_S1x96x224x224

/-- The kernel's second result. -/
def result_1 : FVec Ideal S1x25x50176 .f32 :=
  broadcastInDim S1x25x50176 ![1, 2] bcast_S25x50176_S1x25x50176_1_2 (array_11 m d)

/-- The kernel's third result. -/
def result_2 : FVec Ideal S1x25x50176 .f32 :=
  broadcastInDim S1x25x50176 ![1, 2] bcast_S25x50176_S1x25x50176_1_2 (array_12 m d)

/-- The kernel's fourth result. -/
def result_3 : IVec S1x1x224x224 1 :=
  cmpf (F := Ideal) .une (m ((d.tc : Thread nD τ).loc main_arg3) : FVec Ideal S1x1x224x224 .f32)
    (broadcastInDim S1x1x224x224 ![] bcast_S_S1x1x224x224 (constant S_ .f32 0x00000000#32))

theorem tail_0 : Pipeline.afterTail₀ cfgs (dats m) 0 (V0 m) [hostOps1] d main_v31 = result_0 m d := by
  refine (last_31 (mid m d)).trans ?_
  rw [mid_10]; rfl

theorem tail_1 : Pipeline.afterTail₀ cfgs (dats m) 0 (V0 m) [hostOps1] d main_v32 = result_1 m d := by
  refine (last_32 (mid m d)).trans ?_
  rw [mid_11]; rfl

theorem tail_2 : Pipeline.afterTail₀ cfgs (dats m) 0 (V0 m) [hostOps1] d main_v33 = result_2 m d := by
  refine (last_33 (mid m d)).trans ?_
  rw [mid_12]; rfl

theorem tail_3 : Pipeline.afterTail₀ cfgs (dats m) 0 (V0 m) [hostOps1] d main_v35 = result_3 m d := by
  refine (last_35 (mid m d)).trans ?_
  rw [mid_arg3]; rfl

/-- The kernel's run and its four results. -/
theorem run (g : Dev nD → PrngReg) :
    θ_run (defs (F := Ideal)) (onTc (τ := τ) (main (F := Ideal))) ⟨m, fun _ => 0, g⟩ fun r => ∀ c : Dev nD,
      r.2.mem ((c.tc : Thread nD τ).loc main_v31) = result_0 m c
      ∧ r.2.mem ((c.tc : Thread nD τ).loc main_v32) = result_1 m c
      ∧ r.2.mem ((c.tc : Thread nD τ).loc main_v33) = result_2 m c
      ∧ r.2.mem ((c.tc : Thread nD τ).loc main_v35) = result_3 m c := by
  run_from Cert.KernelIdeal.Gen.run_main m g
  · exact tail_0 m c
  · exact tail_1 m c
  · exact tail_2 m c
  · exact tail_3 m c

end Cert.KernelIdeal.Value

end
-- ==== Proof.Softmax.lean ====
/-
  The attention of one pixel as the reference spells it, and its equality with the kernel's spelling when every number is
  real: the root of 96 divided by or its inverse multiplied in, the softmax with or without the maximum taken off.
-/
module

public import proofs.«01_k».proof.Proof.Attend
public import proofs.«01_k».proof.Proof.Inputs

@[expose] public section

noncomputable section

namespace Cert.Attn

open Idealize.ShloMosaic

/-- A number that is real, neither infinity. -/
def Real1 (x : EReal) : Prop := ∃ a : ℝ, x = (a : EReal)

/-- A sum of reals, taken over the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Real1.zero : Real1 0 := ⟨0, by simp⟩

theorem Real1.add {x y : EReal} : Real1 x → Real1 y → Real1 (x + y) := by
  rintro ⟨a, rfl⟩ ⟨b, rfl⟩; exact ⟨a + b, (EReal.coe_add a b).symm⟩

theorem Real1.mul {x y : EReal} : Real1 x → Real1 y → Real1 (x * y) := by
  rintro ⟨a, rfl⟩ ⟨b, rfl⟩; exact ⟨a * b, (EReal.coe_mul a b).symm⟩

theorem Real1.sum {ι : Type} (s : Finset ι) (f : ι → EReal) (h : ∀ i, Real1 (f i)) : Real1 (∑ i ∈ s, f i) := by
  choose g hg using h
  exact ⟨∑ i ∈ s, g i, by rw [← coe_sum]; exact Finset.sum_congr rfl fun i _ => hg i⟩

/-- An image all of whose pixels are real. -/
def RealImg (Y : Img) : Prop := ∀ c a b, Real1 (Y c a b)

theorem RealImg.pad {Y : Img} (h : RealImg Y) (d : ℕ) : RealImg (padAt d Y) := fun c a b => by
  unfold padAt; split
  · exact h _ _ _
  · exact .zero

/-- A convolution of a real image with real taps and biases is real. -/
theorem RealImg.conv {Z : Img} (hZ : RealImg Z) {W : ℕ → Fin 96 → Fin 96 → EReal} (hW : ∀ k o c, Real1 (W k o c))
    {B : Fin 96 → EReal} (hB : ∀ o, Real1 (B o)) : RealImg (conv W B Z) := fun o r w =>
  (Real1.sum _ _ fun k => Real1.sum _ _ fun c => (hW k o c).mul (hZ.pad 1 _ _ _)).add (hB o)

theorem realImg_img {X : Fin 96 → Fin 224 → Fin 224 → EReal} (h : ∀ c a b, Real1 (X c a b)) : RealImg (img X) :=
  fun c a b => by
    unfold img; split
    · exact h _ _ _
    · exact .zero

theorem real_taps {W : Fin 96 → Fin 96 → Fin 3 → Fin 3 → EReal} (h : ∀ o c a b, Real1 (W o c a b)) :
    ∀ k o c, Real1 (taps W k o c) := fun k o c => by
  unfold taps; split
  · exact h _ _ _ _
  · exact .zero

/-- The reference's score of neighbour `p`: the dot product of query and key, over the root of 96. -/
def refScore (Q K : Img) (r w p : ℕ) : EReal :=
  Ideal.div (∑ c : Fin 96, Q c r w * padAt 2 K c (r + p / 5) (w + p % 5)) (Ideal.sqrt ((96 : ℝ) : EReal))

/-- The largest of the 25 scores. -/
def refMax (S : ℕ → EReal) : EReal := max ⊥ (Finset.univ.fold max ⊥ fun q : Fin 25 => S q)

/-- The reference's weight of neighbour `p`: the softmax of the 25 scores. -/
def refWeight (S : ℕ → EReal) (p : ℕ) : EReal :=
  Ideal.div (Ideal.exp (S p - refMax S)) (∑ q : Fin 25, Ideal.exp (S q - refMax S))

/-- The reference's weighted sum of the window. -/
def refGather (Q K : Img) (o : Fin 96) (r w : ℕ) : EReal :=
  ∑ p ∈ Finset.range 25, refWeight (refScore Q K r w) p * padAt 2 K o (r + p / 5) (w + p % 5)

/-- Dividing the dot product by the root of 96 is scaling the query by its inverse. -/
theorem score_eq {Q K : Img} (hQ : RealImg Q) (hK : RealImg K) (r w p : ℕ) :
    scoreOf (((Real.sqrt 96)⁻¹ : ℝ) : EReal) Q K r w p = refScore Q K r w p := by
  choose q hq using fun c => hQ c r w
  choose k hk using fun c => hK.pad 2 c (r + p / 5) (w + p % 5)
  have h96 : Real.sqrt 96 ≠ 0 := by positivity
  unfold scoreOf refScore
  simp only [hq, hk]
  rw [Ideal.sqrt_coe, if_neg (by norm_num), Ideal.div_coe h96]
  simp only [← EReal.coe_mul, coe_sum]
  congr 1
  rw [Finset.sum_mul]
  refine Finset.sum_congr rfl fun c _ => ?_
  rw [one_div]; ring

/-- A score of real images is real. -/
theorem real_score {Q K : Img} (hQ : RealImg Q) (hK : RealImg K) (r w p : ℕ) : Real1 (refScore Q K r w p) := by
  rw [← score_eq hQ hK]
  exact Real1.sum _ _ fun c => ((hQ c r w).mul ⟨_, rfl⟩).mul (hK.pad 2 _ _ _)

/-- The largest of 25 real scores is real. -/
theorem real_max {S : ℕ → EReal} (h : ∀ p, Real1 (S p)) : Real1 (refMax S) := by
  obtain ⟨i, _, hi⟩ := Finset.exists_mem_eq_sup (Finset.univ : Finset (Fin 25)) Finset.univ_nonempty fun q => S q
  have e : (Finset.univ.fold max ⊥ fun q : Fin 25 => S q) = Finset.univ.sup fun q : Fin 25 => S q := rfl
  unfold refMax
  rw [e, hi, max_eq_right bot_le]
  exact h _

/-- The softmax with the maximum taken off is the softmax without. -/
theorem weight_eq {S : ℕ → EReal} (h : ∀ p, Real1 (S p)) (p : ℕ) : weightOf S p = refWeight S p := by
  obtain ⟨M, hM⟩ := real_max h
  choose s hs using h
  have pos : ∀ t : Fin 25 → ℝ, (∑ q : Fin 25, Real.exp (t q)) ≠ 0 := fun t =>
    (Finset.sum_pos (fun q _ => Real.exp_pos _) Finset.univ_nonempty).ne'
  unfold weightOf refWeight
  rw [hM]
  simp only [hs, ← EReal.coe_sub, Ideal.exp_coe, coe_sum]
  rw [Ideal.div_coe (pos fun q => s q), Ideal.div_coe (pos fun q => s q - M), one_mul]
  simp only [← EReal.coe_mul]
  congr 1
  have e : ∀ q : ℕ, Real.exp (s q - M) = Real.exp (s q) * Real.exp (-M) := fun q => by
    rw [← Real.exp_add, sub_eq_add_neg]
  simp only [e, ← Finset.sum_mul]
  have h1 := pos fun q => s q
  have h2 := Real.exp_ne_zero (-M)
  field_simp

/-- The two weighted sums of the window agree. -/
theorem gather_eq {Q K : Img} (hQ : RealImg Q) (hK : RealImg K) (o : Fin 96) (r w : ℕ) :
    gatherOf (((Real.sqrt 96)⁻¹ : ℝ) : EReal) Q K o r w = refGather Q K o r w := by
  unfold gatherOf refGather
  rw [show scoreOf (((Real.sqrt 96)⁻¹ : ℝ) : EReal) Q K r w = refScore Q K r w from funext fun p => score_eq hQ hK r w p]
  exact Finset.sum_congr rfl fun p _ => congrArg (· * _) (weight_eq (fun p => real_score hQ hK r w p) p)

/-- Multiplying by the mask's bit is selecting by the mask. -/
theorem mul_bit (x m : EReal) : x * bitOf m = if m ≠ 0 then x else 0 := by
  unfold bitOf; split <;> simp

/-- The reference's masked score. -/
def refLogit (Q K : Img) (M : ℕ → ℕ → EReal) (p r w : ℕ) : EReal := if M r w ≠ 0 then refScore Q K r w p else 0

/-- One pixel of the reference's first result. -/
def refPixel (V Q K K' : Img) (M : ℕ → ℕ → EReal) (o : Fin 96) (r w : ℕ) : EReal :=
  (V o r w + if M r w ≠ 0 then refGather Q K o r w else 0) + if M r w ≠ 0 then refGather Q K' o r w else 0

theorem logit_eq {Q K : Img} (hQ : RealImg Q) (hK : RealImg K) (M : ℕ → ℕ → EReal) (p r w : ℕ) :
    logitOf (((Real.sqrt 96)⁻¹ : ℝ) : EReal) Q K M p r w = refLogit Q K M p r w := by
  unfold logitOf refLogit
  rw [mul_bit, score_eq hQ hK]

theorem pixel_eq (V : Img) {Q K K' : Img} (hQ : RealImg Q) (hK : RealImg K) (hK' : RealImg K') (M : ℕ → ℕ → EReal)
    (o : Fin 96) (r w : ℕ) :
    pixelOf (((Real.sqrt 96)⁻¹ : ℝ) : EReal) V Q K K' M o r w = refPixel V Q K K' M o r w := by
  unfold pixelOf refPixel
  rw [mul_bit, mul_bit, gather_eq hQ hK, gather_eq hQ hK']

end Cert.Attn

end
-- ==== Proof.RConv.lean ====
/-
  The reference's convolution, read at a pixel.
-/
module

public import proofs.«01_k».proof.Proof.Gen.ReferenceIdeal
public import proofs.«01_k».proof.Proof.Softmax
public import proofs.«01_k».proof.Proof.Inputs
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Attn

/-- The reference's convolution of a padded image `P`: nine shifted products added up, then the bias. -/
def convTerm (P : FVec Ideal S96x226x226 .f32) (W : FVec Ideal S96x96x3x3 .f32) (B : FVec Ideal S96 .f32) :
    FVec Ideal S96x50176 .f32 :=
  addf (addf (addf (addf (addf (addf (addf (addf (addf (addf (broadcastInDim S96x50176 ![] bcast_S_S96x50176 (constant S_ .f32 0x00000000#32)) (Host.dotGeneral dot_S96x96_S96x50176_S96x50176_1_0_0_1_n_n none (shapeCast _ (extractStridedSlice S96x96x1x1 ![0, 0, 0, 0] W slices_S96x96x3x3_S96x96x1x1_0_0_0_0) shapeCasts_S96x96x1x1_S96x96) (shapeCast _ (extractStridedSlice S96x224x224 ![0, 0, 0] P slices_S96x226x226_S96x224x224_0_0_0) shapeCasts_S96x224x224_S96x50176))) (Host.dotGeneral dot_S96x96_S96x50176_S96x50176_1_0_0_1_n_n none (shapeCast _ (extractStridedSlice S96x96x1x1 ![0, 0, 0, 1] W slices_S96x96x3x3_S96x96x1x1_0_0_0_1) shapeCasts_S96x96x1x1_S96x96) (shapeCast _ (extractStridedSlice S96x224x224 ![0, 0, 1] P slices_S96x226x226_S96x224x224_0_0_1) shapeCasts_S96x224x224_S96x50176))) (Host.dotGeneral dot_S96x96_S96x50176_S96x50176_1_0_0_1_n_n none (shapeCast _ (extractStridedSlice S96x96x1x1 ![0, 0, 0, 2] W slices_S96x96x3x3_S96x96x1x1_0_0_0_2) shapeCasts_S96x96x1x1_S96x96) (shapeCast _ (extractStridedSlice S96x224x224 ![0, 0, 2] P slices_S96x226x226_S96x224x224_0_0_2) shapeCasts_S96x224x224_S96x50176))) (Host.dotGeneral dot_S96x96_S96x50176_S96x50176_1_0_0_1_n_n none (shapeCast _ (extractStridedSlice S96x96x1x1 ![0, 0, 1, 0] W slices_S96x96x3x3_S96x96x1x1_0_0_1_0) shapeCasts_S96x96x1x1_S96x96) (shapeCast _ (extractStridedSlice S96x224x224 ![0, 1, 0] P slices_S96x226x226_S96x224x224_0_1_0) shapeCasts_S96x224x224_S96x50176))) (Host.dotGeneral dot_S96x96_S96x50176_S96x50176_1_0_0_1_n_n none (shapeCast _ (extractStridedSlice S96x96x1x1 ![0, 0, 1, 1] W slices_S96x96x3x3_S96x96x1x1_0_0_1_1) shapeCasts_S96x96x1x1_S96x96) (shapeCast _ (extractStridedSlice S96x224x224 ![0, 1, 1] P slices_S96x226x226_S96x224x224_0_1_1) shapeCasts_S96x224x224_S96x50176))) (Host.dotGeneral dot_S96x96_S96x50176_S96x50176_1_0_0_1_n_n none (shapeCast _ (extractStridedSlice S96x96x1x1 ![0, 0, 1, 2] W slices_S96x96x3x3_S96x96x1x1_0_0_1_2) shapeCasts_S96x96x1x1_S96x96) (shapeCast _ (extractStridedSlice S96x224x224 ![0, 1, 2] P slices_S96x226x226_S96x224x224_0_1_2) shapeCasts_S96x224x224_S96x50176))) (Host.dotGeneral dot_S96x96_S96x50176_S96x50176_1_0_0_1_n_n none (shapeCast _ (extractStridedSlice S96x96x1x1 ![0, 0, 2, 0] W slices_S96x96x3x3_S96x96x1x1_0_0_2_0) shapeCasts_S96x96x1x1_S96x96) (shapeCast _ (extractStridedSlice S96x224x224 ![0, 2, 0] P slices_S96x226x226_S96x224x224_0_2_0) shapeCasts_S96x224x224_S96x50176))) (Host.dotGeneral dot_S96x96_S96x50176_S96x50176_1_0_0_1_n_n none (shapeCast _ (extractStridedSlice S96x96x1x1 ![0, 0, 2, 1] W slices_S96x96x3x3_S96x96x1x1_0_0_2_1) shapeCasts_S96x96x1x1_S96x96) (shapeCast _ (extractStridedSlice S96x224x224 ![0, 2, 1] P slices_S96x226x226_S96x224x224_0_2_1) shapeCasts_S96x224x224_S96x50176))) (Host.dotGeneral dot_S96x96_S96x50176_S96x50176_1_0_0_1_n_n none (shapeCast _ (extractStridedSlice S96x96x1x1 ![0, 0, 2, 2] W slices_S96x96x3x3_S96x96x1x1_0_0_2_2) shapeCasts_S96x96x1x1_S96x96) (shapeCast _ (extractStridedSlice S96x224x224 ![0, 2, 2] P slices_S96x226x226_S96x224x224_0_2_2) shapeCasts_S96x224x224_S96x50176))) (broadcastInDim S96x50176 ![0, 1] bcast_S96x1_S96x50176_0_1 (broadcastInDim S96x1 ![0] bcast_S96_S96x1_0 B))

/-- The reference's padding of an image by one pixel. -/
def padTerm (X : FVec Ideal S1x96x224x224 .f32) : FVec Ideal S96x226x226 .f32 :=
  pad S96x226x226 ![0, 1, 1] ![0, 1, 1] ![0, 0, 0] (shapeCast _ X shapeCasts_S1x96x224x224_S96x224x224) (sitofp .f32 (constantI S_ 32 0#32)) pads_S96x224x224_S96x226x226_000_110_110 h_S_

/-- The integer nought the padding is filled with is the real nought. -/
theorem zero_fill : (FloatOps.sitofp FTy.f32 0#32 : Ideal .f32) = (0 : EReal) := by
  show ((((0#32 : BitVec 32).toInt : ℤ) : ℝ) : EReal) = 0
  simp

/-- The padding, read at a padded pixel. -/
theorem padTerm_at (X : FVec Ideal S1x96x224x224 .f32) (c : Fin 96) (a b : Fin 226) :
    padTerm X (ix3 c a b) = padAt 1 (img fun c a b => X (ix4 (0 : Fin 1) c a b)) c a b := by
  pointwise [padTerm]
  unfold padAt img
  by_cases h : (1 ≤ a.val ∧ a.val - 1 < 224) ∧ 1 ≤ b.val ∧ b.val - 1 < 224
  · rw [dif_pos h, if_pos (by omega), dif_pos (by omega)]
  · rw [dif_neg h, if_neg (by omega), zero_fill]

/-- A tap read from the array of weights. -/
theorem taps_at (W : Fin 96 → Fin 96 → Fin 3 → Fin 3 → EReal) (k : ℕ) (i j : Fin 3) (hi : k / 3 = i.val)
    (hj : k % 3 = j.val) (o c : Fin 96) : taps W k o c = W o c i j := by
  unfold taps
  rw [dif_pos (by omega)]
  congr 1
  · exact Fin.ext hi
  · exact Fin.ext hj

/-- The reference's convolution, read at a pixel. -/
theorem convTerm_at (P : FVec Ideal S96x226x226 .f32) (W : FVec Ideal S96x96x3x3 .f32) (B : FVec Ideal S96 .f32)
    (Z : Img) (hP : ∀ c a b, P (ix3 c a b) = padAt 1 Z c a b) (o : Fin 96) (n : Fin 50176) :
    convTerm P W B (ix2 o n) = conv (taps fun o c a b => W (ix4 o c a b)) (fun o => B (ix1 o)) Z o (n / 224) (n % 224) := by
  have key : ∀ (k : ℕ) (i j : Fin 3) (hi : k / 3 = i.val) (hj : k % 3 = j.val) (a b : Fin 226)
      (ha : a.val = i.val + n.val / 224) (hb : b.val = j.val + n.val % 224),
      (∑ c : Fin 96, W (ix4 o c i j) * P (ix3 c a b)) =
        ∑ c : Fin 96, taps (fun o c a b => W (ix4 o c a b)) k o c * padAt 1 Z c (n.val / 224 + k / 3) (n.val % 224 + k % 3) := by
    intro k i j hi hj a b ha hb
    refine Finset.sum_congr rfl fun c _ => ?_
    rw [taps_at _ k i j hi hj, hP, ha, hb, hi, hj, Nat.add_comm i.val, Nat.add_comm j.val]
  pointwise [convTerm]
  unfold conv
  simp only [Finset.sum_range_succ, Finset.sum_range_zero, zero_add]
  refine congrArg (· + B (ix1 o)) ?_
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  · exact key 0 0 0 rfl rfl _ _ (by simp) (by simp)
  · exact key 1 0 1 rfl rfl _ _ (by simp) (by simp)
  · exact key 2 0 2 rfl rfl _ _ (by simp) (by simp)
  · exact key 3 1 0 rfl rfl _ _ (by simp) (by simp)
  · exact key 4 1 1 rfl rfl _ _ (by simp) (by simp)
  · exact key 5 1 2 rfl rfl _ _ (by simp) (by simp)
  · exact key 6 2 0 rfl rfl _ _ (by simp) (by simp)
  · exact key 7 2 1 rfl rfl _ _ (by simp) (by simp)
  · exact key 8 2 2 rfl rfl _ _ (by simp) (by simp)

end Cert.ReferenceIdeal.Value

end
-- ==== Proof.RWindow.lean ====
/-
  The reference's windows: the convolved image with two pixels of margin, and its 25 shifts.
-/
module

public import proofs.«01_k».proof.Proof.RConv

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Attn

/-- The reference's margin of two pixels round a flat image. -/
def marginTerm (C : FVec Ideal S96x50176 .f32) : FVec Ideal S96x228x228 .f32 :=
  pad S96x228x228 ![0, 2, 2] ![0, 2, 2] ![0, 0, 0] (shapeCast _ (C) shapeCasts_S96x50176_S96x224x224) (sitofp .f32 (constantI S_ 32 0#32)) pads_S96x224x224_S96x228x228_000_220_220 h_S_

/-- The first 16 shifts of an image with its margin. -/
def lowTerm (P : FVec Ideal S96x228x228 .f32) : FVec Ideal S96x16x224x224 .f32 :=
  (concatenate S96x16x224x224 1 [⟨S96x1x224x224, ((broadcastInDim S96x1x224x224 ![0, 2, 3] bcast_S96x224x224_S96x1x224x224_0_2_3 (extractStridedSlice S96x224x224 ![0, 0, 0] P slices_S96x228x228_S96x224x224_0_0_0)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 0, 1] P slices_S96x228x228_S96x224x224_0_0_1)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 0, 2] P slices_S96x228x228_S96x224x224_0_0_2)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 0, 3] P slices_S96x228x228_S96x224x224_0_0_3)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 0, 4] P slices_S96x228x228_S96x224x224_0_0_4)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 1, 0] P slices_S96x228x228_S96x224x224_0_1_0)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 1, 1] P slices_S96x228x228_S96x224x224_0_1_1)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 1, 2] P slices_S96x228x228_S96x224x224_0_1_2)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 1, 3] P slices_S96x228x228_S96x224x224_0_1_3)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 1, 4] P slices_S96x228x228_S96x224x224_0_1_4)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 2, 0] P slices_S96x228x228_S96x224x224_0_2_0)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 2, 1] P slices_S96x228x228_S96x224x224_0_2_1)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 2, 2] P slices_S96x228x228_S96x224x224_0_2_2)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 2, 3] P slices_S96x228x228_S96x224x224_0_2_3)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 2, 4] P slices_S96x228x228_S96x224x224_0_2_4)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 3, 0] P slices_S96x228x228_S96x224x224_0_3_0)) : (⟨S96x1x224x224, .f32⟩ : BufTy).Contents (Elt Ideal))⟩] concatenates_S96x1x224x224_S96x1x224x224_S96x1x224x224_S96x1x224x224_S96x1x224x224_S96x1x224x224_S96x1x224x224_S96x1x224x224_S96x1x224x224_S96x1x224x224_S96x1x224x224_S96x1x224x224_S96x1x224x224_S96x1x224x224_S96x1x224x224_S96x1x224x224_S96x16x224x224_d1 : (⟨S96x16x224x224, .f32⟩ : BufTy).Contents (Elt Ideal))

/-- The last nine shifts of an image with its margin. -/
def highTerm (P : FVec Ideal S96x228x228 .f32) : FVec Ideal S96x9x224x224 .f32 :=
  concatenate S96x9x224x224 1 [⟨S96x1x224x224, ((broadcastInDim S96x1x224x224 ![0, 2, 3] bcast_S96x224x224_S96x1x224x224_0_2_3 (extractStridedSlice S96x224x224 ![0, 3, 1] P slices_S96x228x228_S96x224x224_0_3_1)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 3, 2] P slices_S96x228x228_S96x224x224_0_3_2)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 3, 3] P slices_S96x228x228_S96x224x224_0_3_3)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 3, 4] P slices_S96x228x228_S96x224x224_0_3_4)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 4, 0] P slices_S96x228x228_S96x224x224_0_4_0)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 4, 1] P slices_S96x228x228_S96x224x224_0_4_1)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 4, 2] P slices_S96x228x228_S96x224x224_0_4_2)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 4, 3] P slices_S96x228x228_S96x224x224_0_4_3)) : (⟨S96x1x224x224, .f32⟩ : BufTy).Contents (Elt Ideal))⟩, ⟨S96x1x224x224, ((broadcastInDim S96x1x224x224 ![0, 2, 3] bcast_S96x224x224_S96x1x224x224_0_2_3 (extractStridedSlice S96x224x224 ![0, 4, 4] P slices_S96x228x228_S96x224x224_0_4_4)) : (⟨S96x1x224x224, .f32⟩ : BufTy).Contents (Elt Ideal))⟩] concatenates_S96x1x224x224_S96x1x224x224_S96x1x224x224_S96x1x224x224_S96x1x224x224_S96x1x224x224_S96x1x224x224_S96x1x224x224_S96x1x224x224_S96x9x224x224_d1

/-- The reference's 25 shifts of an image with its margin. -/
def winTerm (P : FVec Ideal S96x228x228 .f32) : FVec Ideal S96x25x50176 .f32 :=
  shapeCast _ (concatenate S96x25x224x224 1 [⟨S96x16x224x224, (lowTerm P)⟩, ⟨S96x9x224x224, ((highTerm P : (⟨S96x9x224x224, .f32⟩ : BufTy).Contents (Elt Ideal)))⟩] concatenates_S96x16x224x224_S96x9x224x224_S96x25x224x224_d1) shapeCasts_S96x25x224x224_S96x25x50176

/-- The margin, read at a padded pixel. -/
theorem marginTerm_at (C : FVec Ideal S96x50176 .f32) (K : Img)
    (hC : ∀ (c : Fin 96) (n : Fin 50176), C (ix2 c n) = K c (n / 224) (n % 224)) (c : Fin 96) (a b : Fin 228) :
    marginTerm C (ix3 c a b) = padAt 2 K c a b := by
  pointwise [marginTerm]
  unfold padAt
  by_cases h : (2 ≤ a.val ∧ a.val - 2 < 224) ∧ 2 ≤ b.val ∧ b.val - 2 < 224
  · rw [dif_pos h, if_pos (by omega), hC]
    congr 1
    · simp only []; omega
    · simp only []; omega
  · rw [dif_neg h, if_neg (by omega), zero_fill]

/-- One of the first 16 shifts, read at a pixel. -/
theorem lowTerm_at (P : FVec Ideal S96x228x228 .f32) (K : Img)
    (hP : ∀ (c : Fin 96) (a b : Fin 228), P (ix3 c a b) = padAt 2 K c a b) (c : Fin 96) (p : Fin 16) (a b : Fin 224) :
    lowTerm P (ix4 c p a b) = padAt 2 K c (a + p / 5) (b + p % 5) := by
  pointwise [lowTerm]
  fin_vals p with hk
  all_goals simp only [hk, Nat.reduceSub, Nat.reduceLT, ↓reduceDIte, hP]
  all_goals exact congrArg₂ (padAt 2 K c) (by omega) (by omega)

/-- One of the last nine shifts, read at a pixel. -/
theorem highTerm_at (P : FVec Ideal S96x228x228 .f32) (K : Img)
    (hP : ∀ (c : Fin 96) (a b : Fin 228), P (ix3 c a b) = padAt 2 K c a b) (c : Fin 96) (p : Fin 9) (a b : Fin 224) :
    highTerm P (ix4 c p a b) = padAt 2 K c (a + (16 + p) / 5) (b + (16 + p) % 5) := by
  pointwise [highTerm]
  fin_vals p with hk
  all_goals simp only [hk, Nat.reduceSub, Nat.reduceLT, ↓reduceDIte, hP]
  all_goals exact congrArg₂ (padAt 2 K c) (by omega) (by omega)

/-- The shift number `p`, read at a pixel. -/
theorem winTerm_at (P : FVec Ideal S96x228x228 .f32) (K : Img)
    (hP : ∀ (c : Fin 96) (a b : Fin 228), P (ix3 c a b) = padAt 2 K c a b) (c : Fin 96) (p : Fin 25) (n : Fin 50176) :
    winTerm P (ix3 c p n) = padAt 2 K c (n / 224 + p / 5) (n % 224 + p % 5) := by
  pointwise [winTerm]
  by_cases h : p.val < 16
  · rw [dif_pos h, lowTerm_at P K hP]
  · rw [dif_neg h, highTerm_at P K hP]
    exact congrArg₂ (padAt 2 K c) (by simp only []; omega) (by simp only []; omega)

end Cert.ReferenceIdeal.Value

end
-- ==== Proof.Consts.lean ====
/-
  The float constants the programs spell, as the extended reals they are.
-/
module

public import Idealize.ShloMosaic.PureOps.Ideal

@[expose] public section

noncomputable section

namespace Cert.Attn

open Idealize.ShloMosaic

/-- The number of channels. -/
theorem bits_96 : Ideal.ofBits .f32 0x42C00000#32 = ((96 : ℝ) : EReal) := by
  simp [Ideal.ofBits, Ideal.ieee, -EReal.coe_mul]; norm_num

/-- The start of a maximum. -/
theorem bits_bot : Ideal.ofBits .f32 0xFF800000#32 = ⊥ := by
  simp [Ideal.ofBits, Ideal.ieee]

/-- The bound of the finite numbers. -/
theorem bits_top : Ideal.ofBits .f32 0x7F800000#32 = ⊤ := by
  simp [Ideal.ofBits, Ideal.ieee]

/-- Nought. -/
theorem bits_zero : Ideal.ofBits .f32 0x00000000#32 = 0 := by
  simp [Ideal.ofBits, Ideal.ieee]

end Cert.Attn

end
-- ==== Proof.RAttn.lean ====
/-
  The reference's scores, weights, sums and selections, read at a pixel.
-/
module

public import proofs.«01_k».proof.Proof.RWindow
public import proofs.«01_k».proof.Proof.Consts

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Attn

/-- The reference's scores of all pixels, from the query and the 25 shifts of the keys. -/
def scoreTerm (Q : FVec Ideal S96x50176 .f32) (U : FVec Ideal S96x25x50176 .f32) : FVec Ideal S25x50176 .f32 :=
  Host.divf (Host.reduceAdd (mulf (broadcastInDim S96x25x50176 ![0, 1, 2] bcast_S96x1x50176_S96x25x50176_0_1_2 (broadcastInDim S96x1x50176 ![0, 2] bcast_S96x50176_S96x1x50176_0_2 Q)) U) (constant S_ .f32 0x00000000#32) reducesTo_S96x25x50176_S25x50176_d0 h_S_) (broadcastInDim S25x50176 ![] bcast_S_S25x50176 (Host.sqrt (constant S_ .f32 0x42C00000#32)))

/-- The reference's exponentials of the scores less their largest. -/
def expTerm (S : FVec Ideal S25x50176 .f32) : FVec Ideal S25x50176 .f32 :=
  Host.exp (subf S (broadcastInDim S25x50176 ![0, 1] bcast_S1x50176_S25x50176_0_1 (broadcastInDim S1x50176 ![1] bcast_S50176_S1x50176_1 (maximumf (broadcastInDim S50176 ![] bcast_S_S50176 (constant S_ .f32 0xFF800000#32)) (Host.reduce FloatOps.maximumf S (constant S_ .f32 0xFF800000#32) reducesTo_S25x50176_S50176_d0 h_S_)))))

/-- The reference's weighted sum of the 25 shifts. -/
def gatherTerm (E : FVec Ideal S25x50176 .f32) (U : FVec Ideal S96x25x50176 .f32) : FVec Ideal S96x50176 .f32 :=
  Host.reduceAdd (mulf (broadcastInDim S96x25x50176 ![0, 1, 2] bcast_S1x25x50176_S96x25x50176_0_1_2 (broadcastInDim S1x25x50176 ![1, 2] bcast_S25x50176_S1x25x50176_1_2 (Host.divf E (broadcastInDim S25x50176 ![0, 1] bcast_S1x50176_S25x50176_0_1 (broadcastInDim S1x50176 ![1] bcast_S50176_S1x50176_1 (Host.reduceAdd E (constant S_ .f32 0x00000000#32) reducesTo_S25x50176_S50176_d0 h_S_)))))) U) (constant S_ .f32 0x00000000#32) reducesTo_S96x25x50176_S96x50176_d1 h_S_

/-- The reference's mask, flat. -/
def maskTerm (X : FVec Ideal S1x1x224x224 .f32) : IVec S1x50176 1 :=
  shapeCast _ (cmpf .une X (broadcastInDim S1x1x224x224 ![] bcast_S_S1x1x224x224 (constant S_ .f32 0x00000000#32))) shapeCasts_S1x1x224x224_S1x50176

/-- The reference's choice by the mask between an image and nought. -/
def keepTerm (M : IVec S1x50176 1) (G : FVec Ideal S96x50176 .f32) : FVec Ideal S96x50176 .f32 :=
  select (broadcastInDim S96x50176 ![0, 1] bcast_S1x50176_S96x50176_0_1 M) G (broadcastInDim S96x50176 ![] bcast_S_S96x50176 (id (constant S_ .f32 0x00000000#32)))

/-- The reference's choice by the mask between the scores and nought. -/
def logitTerm (M : IVec S1x50176 1) (S : FVec Ideal S25x50176 .f32) : FVec Ideal S1x25x50176 .f32 :=
  broadcastInDim S1x25x50176 ![1, 2] bcast_S25x50176_S1x25x50176_1_2 (select (broadcastInDim S25x50176 ![0, 1] bcast_S1x50176_S25x50176_0_1 M) S (broadcastInDim S25x50176 ![] bcast_S_S25x50176 (id (constant S_ .f32 0x00000000#32))))

/-- The scores, read at a pixel. -/
theorem scoreTerm_at (Q : FVec Ideal S96x50176 .f32) (U : FVec Ideal S96x25x50176 .f32) (p : Fin 25) (n : Fin 50176) :
    scoreTerm Q U (ix2 p n) =
      Ideal.div (∑ c : Fin 96, Q (ix2 c n) * U (ix3 c p n)) (Ideal.sqrt (Ideal.ofBits .f32 0x42C00000#32)) := by
  pointwise [scoreTerm]

/-- The exponentials, read at a pixel. -/
theorem expTerm_at (S : FVec Ideal S25x50176 .f32) (p : Fin 25) (n : Fin 50176) :
    expTerm S (ix2 p n) = Ideal.exp (S (ix2 p n) - max (Ideal.ofBits .f32 0xFF800000#32)
      (Finset.univ.fold max (Ideal.ofBits .f32 0xFF800000#32) fun q : Fin 25 => S (ix2 q n))) := by
  pointwise [expTerm]

/-- The weighted sum, read at a pixel. -/
theorem gatherTerm_at (E : FVec Ideal S25x50176 .f32) (U : FVec Ideal S96x25x50176 .f32) (c : Fin 96) (n : Fin 50176) :
    gatherTerm E U (ix2 c n) =
      ∑ p : Fin 25, Ideal.div (E (ix2 p n)) (∑ q : Fin 25, E (ix2 q n)) * U (ix3 c p n) := by
  pointwise [gatherTerm]

/-- The filler of a choice. -/
theorem zero_keep : (id (constant (F := Ideal) S_ .f32 0x00000000#32)) ix0 = (0 : EReal) := bits_zero

/-- The choice of an image, read at a pixel. -/
theorem keepTerm_at (X : FVec Ideal S1x1x224x224 .f32) (G : FVec Ideal S96x50176 .f32) (c : Fin 96) (n : Fin 50176) :
    keepTerm (maskTerm X) G (ix2 c n) =
      if msk (fun a b => X (ix4 (0 : Fin 1) (0 : Fin 1) a b)) (n / 224) (n % 224) ≠ 0 then G (ix2 c n) else 0 := by
  pointwise [keepTerm, maskTerm]
  unfold msk
  rw [zero_keep, dif_pos (by omega)]

/-- The choice of the scores, read at a pixel. -/
theorem logitTerm_at (X : FVec Ideal S1x1x224x224 .f32) (S : FVec Ideal S25x50176 .f32) (p : Fin 25) (n : Fin 50176) :
    logitTerm (maskTerm X) S (ix3 (0 : Fin 1) p n) =
      if msk (fun a b => X (ix4 (0 : Fin 1) (0 : Fin 1) a b)) (n / 224) (n % 224) ≠ 0 then S (ix2 p n) else 0 := by
  pointwise [logitTerm, maskTerm]
  unfold msk
  rw [zero_keep, dif_pos (by omega)]

end Cert.ReferenceIdeal.Value

end
-- ==== Proof.RResult.lean ====
/-
  The reference's results at a pixel, as the mathematics of the attention.
-/
module

public import proofs.«01_k».proof.Proof.RAttn

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Attn

/-- The reference's query, key or value image as mathematics. -/
def convOf (W : FVec Ideal S96x96x3x3 .f32) (B : FVec Ideal S96 .f32) (X : FVec Ideal S1x96x224x224 .f32) : Img :=
  conv (taps fun o c a b => W (ix4 o c a b)) (fun o => B (ix1 o)) (img fun c a b => X (ix4 (0 : Fin 1) c a b))

/-- The mask as mathematics. -/
def maskOf (X : FVec Ideal S1x1x224x224 .f32) : ℕ → ℕ → EReal := msk fun a b => X (ix4 (0 : Fin 1) (0 : Fin 1) a b)

/-- A convolved image of the reference is the convolution. -/
theorem convOf_at (W : FVec Ideal S96x96x3x3 .f32) (B : FVec Ideal S96 .f32) (X : FVec Ideal S1x96x224x224 .f32)
    (o : Fin 96) (n : Fin 50176) : convTerm (padTerm X) W B (ix2 o n) = convOf W B X o (n / 224) (n % 224) :=
  convTerm_at _ W B _ (padTerm_at X) o n

/-- The 25 shifts of a convolved image of the reference. -/
theorem shift_at (W : FVec Ideal S96x96x3x3 .f32) (B : FVec Ideal S96 .f32) (X : FVec Ideal S1x96x224x224 .f32)
    (c : Fin 96) (p : Fin 25) (n : Fin 50176) : winTerm (marginTerm (convTerm (padTerm X) W B)) (ix3 c p n) =
      padAt 2 (convOf W B X) c (n / 224 + p / 5) (n % 224 + p % 5) :=
  winTerm_at _ _ (marginTerm_at _ _ (convOf_at W B X)) c p n

section
variable (Q : FVec Ideal S96x50176 .f32) (U : FVec Ideal S96x25x50176 .f32) (q k : Img)
  (hQ : ∀ (c : Fin 96) (n : Fin 50176), Q (ix2 c n) = q c (n / 224) (n % 224))
  (hU : ∀ (c : Fin 96) (p : Fin 25) (n : Fin 50176), U (ix3 c p n) = padAt 2 k c (n / 224 + p / 5) (n % 224 + p % 5))
include hQ hU

/-- The reference's scores. -/
theorem score_at (p : Fin 25) (n : Fin 50176) : scoreTerm Q U (ix2 p n) = refScore q k (n / 224) (n % 224) p := by
  rw [scoreTerm_at, bits_96]
  exact congrArg (Ideal.div · _) (Finset.sum_congr rfl fun c _ => by rw [hQ, hU])

/-- The reference's exponentials. -/
theorem exp_at (p : Fin 25) (n : Fin 50176) : expTerm (scoreTerm Q U) (ix2 p n) =
    Ideal.exp (refScore q k (n / 224) (n % 224) p - refMax (refScore q k (n / 224) (n % 224))) := by
  rw [expTerm_at, bits_bot, score_at Q U q k hQ hU,
    show (fun q : Fin 25 => scoreTerm Q U (ix2 q n)) = fun p : Fin 25 => refScore q k (n.val / 224) (n.val % 224) p from
      funext fun p => score_at Q U q k hQ hU p n]
  rfl

/-- The reference's weighted sum. -/
theorem gather_at (c : Fin 96) (n : Fin 50176) : gatherTerm (expTerm (scoreTerm Q U)) U (ix2 c n) =
    refGather q k c (n / 224) (n % 224) := by
  rw [gatherTerm_at]
  unfold refGather refWeight
  rw [Finset.sum_range]
  simp only [exp_at Q U q k hQ hU, hU]

end

/-- The reference's first result before its last change of shape. -/
def pixelTerm (A Q : FVec Ideal S96x50176 .f32) (U U' : FVec Ideal S96x25x50176 .f32) (M : FVec Ideal S1x1x224x224 .f32) :
    FVec Ideal S96x50176 .f32 :=
  addf (addf A (keepTerm (maskTerm M) (gatherTerm (expTerm (scoreTerm Q U)) U)))
    (keepTerm (maskTerm M) (gatherTerm (expTerm (scoreTerm Q U')) U'))

/-- The reference's first result, before its last change of shape, read at a pixel. -/
theorem pixelTerm_at (x b f : FVec Ideal S1x96x224x224 .f32) (M : FVec Ideal S1x1x224x224 .f32)
    (wq wk wv : FVec Ideal S96x96x3x3 .f32) (bq bk bv : FVec Ideal S96 .f32) (o : Fin 96) (n : Fin 50176) :
    pixelTerm (convTerm (padTerm x) wv bv) (convTerm (padTerm x) wq bq) (winTerm (marginTerm (convTerm (padTerm b) wk bk)))
      (winTerm (marginTerm (convTerm (padTerm f) wk bk))) M (ix2 o n) =
    refPixel (convOf wv bv x) (convOf wq bq x) (convOf wk bk b) (convOf wk bk f) (maskOf M) o (n / 224) (n % 224) := by
  pointwise [pixelTerm]
  rw [keepTerm_at, keepTerm_at, convOf_at, gather_at _ _ _ _ (convOf_at wq bq x) (shift_at wk bk b),
    gather_at _ _ _ _ (convOf_at wq bq x) (shift_at wk bk f)]
  rfl

/-- The reference's second and third results, read at a pixel. -/
theorem logit_at (x b : FVec Ideal S1x96x224x224 .f32) (M : FVec Ideal S1x1x224x224 .f32)
    (wq wk : FVec Ideal S96x96x3x3 .f32) (bq bk : FVec Ideal S96 .f32) (p : Fin 25) (n : Fin 50176) :
    logitTerm (maskTerm M) (scoreTerm (convTerm (padTerm x) wq bq) (winTerm (marginTerm (convTerm (padTerm b) wk bk))))
      (ix3 (0 : Fin 1) p n) = refLogit (convOf wq bq x) (convOf wk bk b) (maskOf M) p (n / 224) (n % 224) := by
  rw [logitTerm_at, score_at _ _ _ _ (convOf_at wq bq x) (shift_at wk bk b)]
  rfl

end Cert.ReferenceIdeal.Value

end
-- ==== Proof.RRun.lean ====
/-
  The reference's results as the terms of which the mathematics is known.
-/
module

public import proofs.«01_k».proof.Proof.Gen.ReferenceIdeal.Run
public import proofs.«01_k».proof.Proof.RResult

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.Attn

variable (V : Valuation τ sig (Elt Ideal))

/-- The query is the convolution term. -/
theorem v62_eq : res_main_v62 V = convTerm (padTerm (V (Proc.devRef .tc main_arg0))) (V (Proc.devRef .tc main_arg4))
    (V (Proc.devRef .tc main_arg5)) := rfl

/-- The mask is the mask term. -/
theorem v2_eq : res_main_v2 V = maskTerm (V (Proc.devRef .tc main_arg3)) := rfl

/-- The margin of the first keys. -/
theorem v184_eq : res_main_v184 V = marginTerm (convTerm (padTerm (V (Proc.devRef .tc main_arg1)))
    (V (Proc.devRef .tc main_arg6)) (V (Proc.devRef .tc main_arg7))) := rfl

/-- The margin of the second keys. -/
theorem v324_eq : res_main_v324 V = marginTerm (convTerm (padTerm (V (Proc.devRef .tc main_arg2)))
    (V (Proc.devRef .tc main_arg6)) (V (Proc.devRef .tc main_arg7))) := rfl

/-- The shifts of the first keys. -/
theorem v238_eq : res_main_v238 V = winTerm (res_main_v184 V) := rfl

/-- The shifts of the second keys. -/
theorem v378_eq : res_main_v378 V = winTerm (res_main_v324 V) := rfl

/-- The scores against the first keys. -/
theorem v245_eq : res_main_v245 V = scoreTerm (res_main_v62 V) (res_main_v238 V) := rfl

/-- The scores against the second keys. -/
theorem v385_eq : res_main_v385 V = scoreTerm (res_main_v62 V) (res_main_v378 V) := rfl

/-- The exponentials of the first scores. -/
theorem v252_eq : res_main_v252 V = expTerm (res_main_v245 V) := rfl

/-- The exponentials of the second scores. -/
theorem v392_eq : res_main_v392 V = expTerm (res_main_v385 V) := rfl

/-- The value with the first weighted sum. -/
theorem v403_eq : res_main_v403 V = addf (convTerm (padTerm (V (Proc.devRef .tc main_arg0))) (V (Proc.devRef .tc main_arg8))
    (V (Proc.devRef .tc main_arg9))) (keepTerm (res_main_v2 V) (gatherTerm (res_main_v252 V) (res_main_v238 V))) := rfl

section
variable (a0 a1 a2 : FVec Ideal S1x96x224x224 .f32) (a3 : FVec Ideal S1x1x224x224 .f32) (a4 : FVec Ideal S96x96x3x3 .f32)
  (a5 : FVec Ideal S96 .f32) (a6 : FVec Ideal S96x96x3x3 .f32) (a7 : FVec Ideal S96 .f32) (a8 : FVec Ideal S96x96x3x3 .f32)
  (a9 : FVec Ideal S96 .f32)

/-- The reference's first result, flat. -/
def flat_0 : FVec Ideal S96x50176 .f32 :=
  pixelTerm (convTerm (padTerm a0) a8 a9) (convTerm (padTerm a0) a4 a5) (winTerm (marginTerm (convTerm (padTerm a1) a6 a7)))
    (winTerm (marginTerm (convTerm (padTerm a2) a6 a7))) a3

/-- The reference's scores against the keys of `b`, those of the second result for the second argument. -/
def logits (b : FVec Ideal S1x96x224x224 .f32) : FVec Ideal S1x25x50176 .f32 :=
  logitTerm (maskTerm a3) (scoreTerm (convTerm (padTerm a0) a4 a5) (winTerm (marginTerm (convTerm (padTerm b) a6 a7))))

end

/-- The first result. -/
theorem first_eq : shapeCast S1x96x224x224 (addf (res_main_v403 V) (keepTerm (res_main_v2 V) (gatherTerm (res_main_v392 V) (res_main_v378 V)))) shapeCasts_S96x50176_S1x96x224x224 =
    shapeCast S1x96x224x224 (flat_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) shapeCasts_S96x50176_S1x96x224x224 := by
  rw [v403_eq, v392_eq, v385_eq, v252_eq, v245_eq, v378_eq, v324_eq, v238_eq, v184_eq, v62_eq, v2_eq]
  rfl

/-- The second result. -/
theorem second_eq : logitTerm (res_main_v2 V) (res_main_v245 V) = logits (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg1)) := by
  rw [v245_eq, v238_eq, v184_eq, v62_eq, v2_eq]
  rfl

/-- The third result. -/
theorem third_eq : logitTerm (res_main_v2 V) (res_main_v385 V) = logits (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg2)) := by
  rw [v385_eq, v378_eq, v324_eq, v62_eq, v2_eq]
  rfl

/-- The reference's run and its results over its arguments. -/
theorem run_terms (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v405) = shapeCast S1x96x224x224 (flat_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) shapeCasts_S96x50176_S1x96x224x224
      ∧ r.2.mem ((c.tc : Thread nD τ).loc main_v406) = logits (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg1))
      ∧ r.2.mem ((c.tc : Thread nD τ).loc main_v407) = logits (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg2))
      ∧ r.2.mem ((c.tc : Thread nD τ).loc main_v409) = cmpf (F := Ideal) (φ := .f32) .une (m ((c.tc : Thread nD τ).loc main_arg3))
          (broadcastInDim S1x1x224x224 ![] bcast_S_S1x1x224x224 (constant S_ .f32 0x00000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => by
    obtain ⟨h0, h1, h2, h3, h4⟩ := h c
    exact ⟨h0.trans (first_eq (launchContents m c)), h1.trans (second_eq (launchContents m c)),
      h2.trans (third_eq (launchContents m c)), h3, h4⟩) (Cert.ReferenceIdeal.Value.run (F := Ideal) m g)

end Cert.ReferenceIdeal.Value

end
-- ==== Proof.Finite.lean ====
/-
  What the precondition says: every entry of the images, of the query and key filters and of their biases is real.
-/
module

public import proofs.«01_k».proof.Pre_inputs_finite
public import proofs.«01_k».proof.Proof.Softmax
public import proofs.«01_k».proof.Proof.Consts
public import Idealize.ShloMosaic.Lib.Pointwise

@[expose] public section

noncomputable section

namespace Cert.Attn

open Idealize.ShloMosaic Cert.Pre_inputs_finite

/-- The side conditions of the precondition's operations. -/
theorem preFacts : Cert.Pre_inputs_finite.Facts where
  bcast_S_S1x96x224x224 := by decide
  bcast_S_S96x96x3x3 := by decide
  bcast_S_S96 := by decide

/-- A number whose absolute value is below the top is real. -/
theorem real_of_abs {x : EReal} (h : max x (-x) < ⊤) : Real1 x := by
  induction x with
  | bot => simp at h
  | top => simp at h
  | coe a => exact ⟨a, rfl⟩

/-- An array that passes the test holds real numbers. -/
theorem real_of_test {S : Shape} (hb : S_.BroadcastsInDim S (![] : Fin 0 → Fin S.rank)) (X : FVec Ideal S .f32)
    (h : cmpf .olt (Host.absf X) (broadcastInDim S ![] hb (constant S_ .f32 0x7F800000#32)) = fun _ => 1#1) (j : S.Idx) :
    Real1 (X j) := by
  have e := congrFun h j
  pointwise at e
  have e' : max (X j) (-(X j)) < Ideal.ofBits .f32 0x7F800000#32 := by
    by_contra hn
    rw [show decide (FloatOps.absf (X j) < Ideal.ofBits .f32 0x7F800000#32) = false from decide_eq_false hn] at e
    exact absurd e (by decide)
  exact real_of_abs (bits_top ▸ e')

attribute [local instance] preFacts

section
variable (a0 a1 a2 : FVec Ideal S1x96x224x224 .f32) (a3 : FVec Ideal S1x1x224x224 .f32) (a4 : FVec Ideal S96x96x3x3 .f32)
  (a5 : FVec Ideal S96 .f32) (a6 : FVec Ideal S96x96x3x3 .f32) (a7 : FVec Ideal S96 .f32) (a8 : FVec Ideal S96x96x3x3 .f32)
  (a9 : FVec Ideal S96 .f32)

/-- Argument 0 is real. -/
theorem real_arg0 (h : (fn (F := Ideal) a0 a1 a2 a3 a4 a5 a6 a7 a8 a9).1 = fun _ => 1#1) (j) : Real1 (a0 j) :=
  real_of_test _ a0 h j

/-- Argument 1 is real. -/
theorem real_arg1 (h : (fn (F := Ideal) a0 a1 a2 a3 a4 a5 a6 a7 a8 a9).2.1 = fun _ => 1#1) (j) : Real1 (a1 j) :=
  real_of_test _ a1 h j

/-- Argument 2 is real. -/
theorem real_arg2 (h : (fn (F := Ideal) a0 a1 a2 a3 a4 a5 a6 a7 a8 a9).2.2.1 = fun _ => 1#1) (j) : Real1 (a2 j) :=
  real_of_test _ a2 h j

/-- Argument 4 is real. -/
theorem real_arg4 (h : (fn (F := Ideal) a0 a1 a2 a3 a4 a5 a6 a7 a8 a9).2.2.2.1 = fun _ => 1#1) (j) : Real1 (a4 j) :=
  real_of_test _ a4 h j

/-- Argument 5 is real. -/
theorem real_arg5 (h : (fn (F := Ideal) a0 a1 a2 a3 a4 a5 a6 a7 a8 a9).2.2.2.2.1 = fun _ => 1#1) (j) : Real1 (a5 j) :=
  real_of_test _ a5 h j

/-- Argument 6 is real. -/
theorem real_arg6 (h : (fn (F := Ideal) a0 a1 a2 a3 a4 a5 a6 a7 a8 a9).2.2.2.2.2.1 = fun _ => 1#1) (j) : Real1 (a6 j) :=
  real_of_test _ a6 h j

/-- Argument 7 is real. -/
theorem real_arg7 (h : (fn (F := Ideal) a0 a1 a2 a3 a4 a5 a6 a7 a8 a9).2.2.2.2.2.2 = fun _ => 1#1) (j) : Real1 (a7 j) :=
  real_of_test _ a7 h j

end

end Cert.Attn

end
-- ==== Proof.Agree.lean ====
/-
  The kernel's results and the reference's are the same arrays, from the same arguments, wherever the numbers that meet in
  the scores and the weights are real.
-/
module

public import proofs.«01_k».proof.Proof.KResult
public import proofs.«01_k».proof.Proof.RRun
public import proofs.«01_k».proof.Proof.Finite

@[expose] public section

set_option maxRecDepth 16384

noncomputable section

open Idealize.ShloMosaic Idealize.ShloMosaic.TcCoe Idealize.SL.Sem

namespace Cert.Agree

open Cert.Attn

/-- The number the kernel scales its query by is the inverse of the root of 96. -/
theorem scale_eq : Cert.KernelIdeal.Value.scale = (((Real.sqrt 96)⁻¹ : ℝ) : EReal) :=
  IdealRules.named_const.ideal_named_scalar _ _ _ _ rfl

variable (m : (ℓ : Loc Cert.KernelIdeal.nD Cert.KernelIdeal.τ Cert.KernelIdeal.sig) → Buf (Elt Ideal) ℓ)
  (c : Dev Cert.KernelIdeal.nD)

/-- The second result is the second array. -/
theorem result_1_at (p : Fin 25) (n : Fin 50176) :
    Cert.KernelIdeal.Value.result_1 m c (ix3 (0 : Fin 1) p n) = Cert.KernelIdeal.Value.array_11 m c (ix2 p n) := by
  pointwise [Cert.KernelIdeal.Value.result_1]

/-- The third result is the third array. -/
theorem result_2_at (p : Fin 25) (n : Fin 50176) :
    Cert.KernelIdeal.Value.result_2 m c (ix3 (0 : Fin 1) p n) = Cert.KernelIdeal.Value.array_12 m c (ix2 p n) := by
  pointwise [Cert.KernelIdeal.Value.result_2]

section
variable
    (h0 : ∀ j, Real1 (((m ((c.tc : Thread Cert.KernelIdeal.nD Cert.KernelIdeal.τ).loc Cert.KernelIdeal.main_arg0)) : FVec Ideal Cert.KernelIdeal.S1x96x224x224 .f32) j))
    (h1 : ∀ j, Real1 (((m ((c.tc : Thread Cert.KernelIdeal.nD Cert.KernelIdeal.τ).loc Cert.KernelIdeal.main_arg1)) : FVec Ideal Cert.KernelIdeal.S1x96x224x224 .f32) j))
    (h2 : ∀ j, Real1 (((m ((c.tc : Thread Cert.KernelIdeal.nD Cert.KernelIdeal.τ).loc Cert.KernelIdeal.main_arg2)) : FVec Ideal Cert.KernelIdeal.S1x96x224x224 .f32) j))
    (h4 : ∀ j, Real1 (((m ((c.tc : Thread Cert.KernelIdeal.nD Cert.KernelIdeal.τ).loc Cert.KernelIdeal.main_arg4)) : FVec Ideal Cert.KernelIdeal.S96x96x3x3 .f32) j))
    (h5 : ∀ j, Real1 (((m ((c.tc : Thread Cert.KernelIdeal.nD Cert.KernelIdeal.τ).loc Cert.KernelIdeal.main_arg5)) : FVec Ideal Cert.KernelIdeal.S96 .f32) j))
    (h6 : ∀ j, Real1 (((m ((c.tc : Thread Cert.KernelIdeal.nD Cert.KernelIdeal.τ).loc Cert.KernelIdeal.main_arg6)) : FVec Ideal Cert.KernelIdeal.S96x96x3x3 .f32) j))
    (h7 : ∀ j, Real1 (((m ((c.tc : Thread Cert.KernelIdeal.nD Cert.KernelIdeal.τ).loc Cert.KernelIdeal.main_arg7)) : FVec Ideal Cert.KernelIdeal.S96 .f32) j))

section
include h0 h4 h5

/-- The query is real. -/
theorem real_query : RealImg (Cert.KernelIdeal.Value.queryA m c) :=
  (realImg_img fun _ _ _ => h0 _).conv (real_taps fun _ _ _ _ => h4 _) fun _ => h5 _

end

section
include h1 h6 h7

/-- The first keys are real. -/
theorem real_keyB : RealImg (Cert.KernelIdeal.Value.keyB m c) :=
  (realImg_img fun _ _ _ => h1 _).conv (real_taps fun _ _ _ _ => h6 _) fun _ => h7 _

end

section
include h2 h6 h7

/-- The second keys are real. -/
theorem real_keyF : RealImg (Cert.KernelIdeal.Value.keyF m c) :=
  (realImg_img fun _ _ _ => h2 _).conv (real_taps fun _ _ _ _ => h6 _) fun _ => h7 _

end

include h0 h1 h2 h4 h5 h6 h7

/-- The first result, flat, at a pixel. -/
theorem flat_eq (o : Fin 96) (n : Fin 50176) : Cert.KernelIdeal.Value.array_10 m c (ix2 o n) =
    Cert.ReferenceIdeal.Value.flat_0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (ix2 o n) := by
  refine Eq.trans ?_ (Cert.ReferenceIdeal.Value.pixelTerm_at _ _ _ _ _ _ _ _ _ _ o n).symm
  refine Eq.trans ?_ (pixel_eq (Cert.KernelIdeal.Value.valueA m c) (real_query m c h0 h4 h5) (real_keyB m c h1 h6 h7)
    (real_keyF m c h2 h6 h7) (Cert.KernelIdeal.Value.maskA m c) o (n / 224) (n % 224))
  rw [← scale_eq]
  rfl

/-- The first results agree. -/
theorem agree_0 : Cert.KernelIdeal.Value.result_0 m c = shapeCast Cert.ReferenceIdeal.S1x96x224x224
    (Cert.ReferenceIdeal.Value.flat_0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    Cert.ReferenceIdeal.Gen.shapeCasts_S96x50176_S1x96x224x224 := by
  have e : Cert.KernelIdeal.Value.array_10 m c = Cert.ReferenceIdeal.Value.flat_0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
    funext j
    idx_vars j
    exact flat_eq m c h0 h1 h2 h4 h5 h6 h7 _ _
  unfold Cert.KernelIdeal.Value.result_0
  rw [e]

end

section
variable
    (h0 : ∀ j, Real1 (((m ((c.tc : Thread Cert.KernelIdeal.nD Cert.KernelIdeal.τ).loc Cert.KernelIdeal.main_arg0)) : FVec Ideal Cert.KernelIdeal.S1x96x224x224 .f32) j))
    (h1 : ∀ j, Real1 (((m ((c.tc : Thread Cert.KernelIdeal.nD Cert.KernelIdeal.τ).loc Cert.KernelIdeal.main_arg1)) : FVec Ideal Cert.KernelIdeal.S1x96x224x224 .f32) j))
    (h2 : ∀ j, Real1 (((m ((c.tc : Thread Cert.KernelIdeal.nD Cert.KernelIdeal.τ).loc Cert.KernelIdeal.main_arg2)) : FVec Ideal Cert.KernelIdeal.S1x96x224x224 .f32) j))
    (h4 : ∀ j, Real1 (((m ((c.tc : Thread Cert.KernelIdeal.nD Cert.KernelIdeal.τ).loc Cert.KernelIdeal.main_arg4)) : FVec Ideal Cert.KernelIdeal.S96x96x3x3 .f32) j))
    (h5 : ∀ j, Real1 (((m ((c.tc : Thread Cert.KernelIdeal.nD Cert.KernelIdeal.τ).loc Cert.KernelIdeal.main_arg5)) : FVec Ideal Cert.KernelIdeal.S96 .f32) j))
    (h6 : ∀ j, Real1 (((m ((c.tc : Thread Cert.KernelIdeal.nD Cert.KernelIdeal.τ).loc Cert.KernelIdeal.main_arg6)) : FVec Ideal Cert.KernelIdeal.S96x96x3x3 .f32) j))
    (h7 : ∀ j, Real1 (((m ((c.tc : Thread Cert.KernelIdeal.nD Cert.KernelIdeal.τ).loc Cert.KernelIdeal.main_arg7)) : FVec Ideal Cert.KernelIdeal.S96 .f32) j))

include h0 h1 h4 h5 h6 h7 in
/-- The second results agree. -/
theorem agree_1 : Cert.KernelIdeal.Value.result_1 m c = Cert.ReferenceIdeal.Value.logits (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg1)) := by
  funext j
  idx_vars j
  obtain rfl : j0 = 0 := Subsingleton.elim _ _
  refine Eq.trans ?_ (Cert.ReferenceIdeal.Value.logit_at _ _ _ _ _ _ _ j1 j2).symm
  refine Eq.trans ?_ (logit_eq (real_query m c h0 h4 h5) (real_keyB m c h1 h6 h7) (Cert.KernelIdeal.Value.maskA m c) j1
    (j2 / 224) (j2 % 224))
  rw [← scale_eq, result_1_at]
  rfl

include h0 h2 h4 h5 h6 h7 in
/-- The third results agree. -/
theorem agree_2 : Cert.KernelIdeal.Value.result_2 m c = Cert.ReferenceIdeal.Value.logits (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg2)) := by
  funext j
  idx_vars j
  obtain rfl : j0 = 0 := Subsingleton.elim _ _
  refine Eq.trans ?_ (Cert.ReferenceIdeal.Value.logit_at _ _ _ _ _ _ _ j1 j2).symm
  refine Eq.trans ?_ (logit_eq (real_query m c h0 h4 h5) (real_keyF m c h2 h6 h7) (Cert.KernelIdeal.Value.maskA m c) j1
    (j2 / 224) (j2 % 224))
  rw [← scale_eq, result_2_at]
  rfl

end

/-- The fourth results agree. -/
theorem agree_3 : Cert.KernelIdeal.Value.result_3 m c = cmpf (F := Ideal) (φ := .f32) .une (m ((c.tc : Thread Cert.KernelIdeal.nD Cert.KernelIdeal.τ).loc Cert.KernelIdeal.main_arg3))
    (broadcastInDim Cert.ReferenceIdeal.S1x1x224x224 ![] Cert.ReferenceIdeal.Gen.bcast_S_S1x1x224x224
      (constant Cert.ReferenceIdeal.S_ .f32 0x00000000#32)) := rfl

end Cert.Agree

end
-- ==== Proof.lean ====
/-
  The proof of the claim: both programs' frames, the reference's frame, the named constant, and the equality of all four
  results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments alone and every counter at nought. -/
theorem ref_frame : Cert.quiescent_ReferenceIdeal (hReferenceIdeal := Cert.ReferenceIdeal.Gen.facts) := fun m g _ =>
  (θ_run Cert.ReferenceIdeal.defs _ _).mono (fun r h => ⟨fun c => (h c).2.2.2.2,
    Idealize.ShloMosaic.sem_eq_zero_of_no_sems (by decide) r.2⟩) (Cert.ReferenceIdeal.Value.run_terms m g)

/-- The four results of the two programs agree where the precondition holds. -/
theorem algebraic : Cert.algebraic_KernelIdeal_ReferenceIdeal_pre_inputs_finite (hKernelIdeal := Cert.KernelIdeal.Gen.facts)
    (hReferenceIdeal := Cert.ReferenceIdeal.Gen.facts) (hPre_inputs_finite := Cert.Attn.preFacts) := by
  intro m g m' g' hpre hagree
  refine ⟨Cert.KernelIdeal.Value.result_0 m, Cert.KernelIdeal.Value.result_1 m, Cert.KernelIdeal.Value.result_2 m,
    Cert.KernelIdeal.Value.result_3 m, ?_, ?_⟩
  · run_from Cert.KernelIdeal.Value.run m g & Cert.KernelIdeal.Gen.unchanged m g
  · refine (θ_run Cert.ReferenceIdeal.defs _ _).mono (fun r h c => ?_) (Cert.ReferenceIdeal.Value.run_terms m' g')
    obtain ⟨q0, q1, q2, q3, q4⟩ := h c
    obtain ⟨p0, p1, p2, p3, p4, p5, p6⟩ := hpre c
    have r0 := Cert.Attn.real_arg0 _ _ _ _ _ _ _ _ _ _ p0
    have r1 := Cert.Attn.real_arg1 _ _ _ _ _ _ _ _ _ _ p1
    have r2 := Cert.Attn.real_arg2 _ _ _ _ _ _ _ _ _ _ p2
    have r4 := Cert.Attn.real_arg4 _ _ _ _ _ _ _ _ _ _ p3
    have r5 := Cert.Attn.real_arg5 _ _ _ _ _ _ _ _ _ _ p4
    have r6 := Cert.Attn.real_arg6 _ _ _ _ _ _ _ _ _ _ p5
    have r7 := Cert.Attn.real_arg7 _ _ _ _ _ _ _ _ _ _ p6
    obtain ⟨e0, e1, e2, e3, e4, e5, e6, e7, e8, e9⟩ := hagree c
    rw [e0, e1, e2, e3, e4, e5, e6, e7, e8, e9] at q0
    rw [e0, e1, e3, e4, e5, e6, e7] at q1
    rw [e0, e2, e3, e4, e5, e6, e7] at q2
    rw [e3] at q3
    exact ⟨q0.trans (Cert.Agree.agree_0 m c r0 r1 r2 r4 r5 r6 r7).symm, q1.trans (Cert.Agree.agree_1 m c r0 r1 r4 r5 r6 r7).symm,
      q2.trans (Cert.Agree.agree_2 m c r0 r2 r4 r5 r6 r7).symm, q3.trans (Cert.Agree.agree_3 m c).symm, q4⟩

/-- Everything claimed. -/
theorem claim : Cert.Claim :=
  ⟨Cert.Kernel.Gen.facts, Cert.KernelIdeal.Gen.facts, Cert.ReferenceIdeal.Gen.facts, Cert.Attn.preFacts,
    fun m g _ => Cert.Kernel.Gen.frame m g, fun m g _ => Cert.KernelIdeal.Gen.frame m g,
    fun m g _ => Cert.KernelIdeal.Gen.frame m g, ref_frame, fun m g _ => ref_frame m g trivial,
    IdealRules.named_const.statement Cert.KernelIdeal.κ "inv_sqrt_c" .f32 0x3DD105EC#32 (((Real.sqrt 96)⁻¹ : ℝ) : EReal) rfl,
    algebraic⟩

end Cert.Proof

end
